-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x100000 : Shape := ⟨2, ![128, 100000]⟩
abbrev S100000 : Shape := ⟨1, ![100000]⟩
abbrev S_ : Shape := ⟨0, ![]⟩
abbrev S1024x1 : Shape := ⟨2, ![1024, 1]⟩
abbrev S1024x7 : Shape := ⟨2, ![1024, 7]⟩
abbrev S1024x136 : Shape := ⟨2, ![1024, 136]⟩
abbrev S1x100000 : Shape := ⟨2, ![1, 100000]⟩
abbrev S1x102400 : Shape := ⟨2, ![1, 102400]⟩
abbrev S128x102400 : Shape := ⟨2, ![128, 102400]⟩
abbrev S2x102400 : Shape := ⟨2, ![2, 102400]⟩
abbrev S5x102400 : Shape := ⟨2, ![5, 102400]⟩
abbrev S136x102400 : Shape := ⟨2, ![136, 102400]⟩
abbrev S1024x100000 : Shape := ⟨2, ![1024, 100000]⟩
abbrev S256x136 : Shape := ⟨2, ![256, 136]⟩
abbrev S256x5120 : Shape := ⟨2, ![256, 5120]⟩
abbrev S256x128 : Shape := ⟨2, ![256, 128]⟩
abbrev S136x5120 : Shape := ⟨2, ![136, 5120]⟩
abbrev S256x1 : Shape := ⟨2, ![256, 1]⟩
abbrev S256 : Shape := ⟨1, ![256]⟩

abbrev nBuf : Space → Nat
  | .hbm => 24
  | .vmem => 11
  | .smem => 0
  | _ => 0

abbrev bufTy : (tb : Table) → Fin (tcTables nBuf tb) → BufTy
  | .hbm, ⟨0, _⟩ => ⟨S1024x128, .f32⟩
  | .hbm, ⟨1, _⟩ => ⟨S128x100000, .f32⟩
  | .hbm, ⟨2, _⟩ => ⟨S100000, .f32⟩
  | .hbm, ⟨3, _⟩ => ⟨S1024x128, .bf16⟩
  | .hbm, ⟨4, _⟩ => ⟨S_, .bf16⟩
  | .hbm, ⟨5, _⟩ => ⟨S1024x1, .bf16⟩
  | .hbm, ⟨6, _⟩ => ⟨S_, .bf16⟩
  | .hbm, ⟨7, _⟩ => ⟨S1024x7, .bf16⟩
  | .hbm, ⟨8, _⟩ => ⟨S1024x136, .bf16⟩
  | .hbm, ⟨9, _⟩ => ⟨S1x100000, .f32⟩
  | .hbm, ⟨10, _⟩ => ⟨S_, .f32⟩
  | .hbm, ⟨11, _⟩ => ⟨S_, .f32⟩
  | .hbm, ⟨12, _⟩ => ⟨S1x102400, .f32⟩
  | .hbm, ⟨13, _⟩ => ⟨S1x102400, .bf16⟩
  | .hbm, ⟨14, _⟩ => ⟨S128x100000, .bf16⟩
  | .hbm, ⟨15, _⟩ => ⟨S_, .i32⟩
  | .hbm, ⟨16, _⟩ => ⟨S_, .bf16⟩
  | .hbm, ⟨17, _⟩ => ⟨S128x102400, .bf16⟩
  | .hbm, ⟨18, _⟩ => ⟨S_, .bf16⟩
  | .hbm, ⟨19, _⟩ => ⟨S2x102400, .bf16⟩
  | .hbm, ⟨20, _⟩ => ⟨S_, .bf16⟩
  | .hbm, ⟨21, _⟩ => ⟨S5x102400, .bf16⟩
  | .hbm, ⟨22, _⟩ => ⟨S136x102400, .bf16⟩
  | .hbm, ⟨23, _⟩ => ⟨S1024x100000, .f32⟩
  | .local _ .vmem, ⟨0, _⟩ => ⟨S256x136, .bf16⟩
  | .local _ .vmem, ⟨1, _⟩ => ⟨S256x136, .bf16⟩
  | .local _ .vmem, ⟨2, _⟩ => ⟨S256x136, .bf16⟩
  | .local _ .vmem, ⟨3, _⟩ => ⟨S256x136, .bf16⟩
  | .local _ .vmem, ⟨4, _⟩ => ⟨S136x102400, .bf16⟩
  | .local _ .vmem, ⟨5, _⟩ => ⟨S256x5120, .f32⟩
  | .local _ .vmem, ⟨6, _⟩ => ⟨S256x5120, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x136, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call1_v0 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![5, 20], ![false, false]⟩

def k0_off1 (i : grid0.Coords) : Fin 2 → Nat :=
  let c0 : Index := 0#32
  let arg1 : BitVec 32 := BitVec.ofNat 32 (i 1).val
  let c5120_i32 : BitVec 32 := 5120#32
  let v0 : BitVec 32 := Scalar.muli arg1 c5120_i32
  let v1 : Index := Scalar.indexCast v0
  ![0, v1.toNat]
def k0_cond1 (i : grid0.Coords) : BitVec 1 :=
  let arg0 : BitVec 32 := BitVec.ofNat 32 (i 0).val
  let c0_i32 : BitVec 32 := 0#32
  let v4 : BitVec 1 := Scalar.cmpi .sgt arg0 c0_i32
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.minsi arg0 c1_i32_0
  let v3 : BitVec 32 := Scalar.muli arg1 v2
  let c0_i32_1 : BitVec 32 := 0#32
  ![v1.toNat, v3.toNat]

abbrev stage0_0 : Fin 2 → Memref sig .tc .vmem S256x136 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x136 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S136x102400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1024x128 : Shape := ⟨2, ![1024, 128]⟩
abbrev S128x100000 : Shape := ⟨2, ![128, 100000]⟩
abbrev S100000 : Shape := ⟨1, ![100000]⟩
abbrev S1024x100000 : Shape := ⟨2, ![1024, 100000]⟩
abbrev S1x100000 : Shape := ⟨2, ![1, 100000]⟩
abbrev S_ : Shape := ⟨0, ![]⟩
abbrev S1024 : Shape := ⟨1, ![1024]⟩
abbrev S1024x1 : Shape := ⟨2, ![1024, 1]⟩

abbrev nBuf : Space → Nat
  | .hbm => 14
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x100000, .f32⟩
  | .hbm, ⟨2, _⟩ => ⟨S100000, .f32⟩
  | .hbm, ⟨3, _⟩ => ⟨S1024x100000, .f32⟩
  | .hbm, ⟨4, _⟩ => ⟨S1x100000, .f32⟩
  | .hbm, ⟨5, _⟩ => ⟨S1024x100000, .f32⟩
  | .hbm, ⟨6, _⟩ => ⟨S1024x100000, .f32⟩
  | .hbm, ⟨7, _⟩ => ⟨S1024x100000, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x1, .f32⟩
  | .hbm, ⟨12, _⟩ => ⟨S1024x100000, .f32⟩
  | .hbm, ⟨13, _⟩ => ⟨S1024x100000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.KernelIdeal.BodyDefs.lean ====
/- The values the body of the kernel leaves in its memory, and what its steps compute, as functions of vectors. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The columns of the augmented weights that grid step `i` works on. -/
def wcols (i : grid0.Coords) (x2 : Vec F S136x102400 .bf16) : Vec F S136x5120 .bf16 :=
  VecWindow.window x2 (k0_off1 i) S136x5120.size (k0_off1_inb i)

/-- The running lane maxima after a step: `x0` the context rows, `w` the weight columns, `m0` the maxima before. -/
def newM (x0 : Vec F S256x136 .bf16) (w : Vec F S136x5120 .bf16) (m0 : Vec F S256x128 .f32) : FVec F S256x128 .f32 :=
  k0_pay16 (k0_pay11 (k0_pay1 w) x0) (k0_pay14 (k0_pay1 w) x0) (k0_pay15 (k0_pay1 w) x0) m0

/-- The running lane sums of exponentials after a step: `s0` the sums before. -/
def newS (x0 : Vec F S256x136 .bf16) (w : Vec F S136x5120 .bf16) (m0 s0 : Vec F S256x128 .f32) : Vec F S256x128 .f32 :=
  k0_pay8 (k0_pay11 (k0_pay1 w) x0) (newM x0 w m0)
    (k0_pay21 (k0_pay11 (k0_pay1 w) x0) (newM x0 w m0)
      (k0_pay19 (k0_pay11 (k0_pay1 w) x0) (newM x0 w m0)
        (k0_pay17 (k0_pay11 (k0_pay1 w) x0) (k0_pay14 (k0_pay1 w) x0) (k0_pay15 (k0_pay1 w) x0) m0 s0)
        (k0_pay18 (k0_pay11 (k0_pay1 w) x0) (k0_pay14 (k0_pay1 w) x0) (k0_pay15 (k0_pay1 w) x0) m0))
      (k0_pay20 (k0_pay11 (k0_pay1 w) x0) (newM x0 w m0)))
    (k0_pay22 (k0_pay11 (k0_pay1 w) x0) (newM x0 w m0))

/-- The output operand: the context rows with minus the log-sum-exp, in two parts, in columns 129 and 130. -/
def mkCo (x1 : Vec F S256x136 .bf16) (l : Vec F S256x128 .f32) : Vec F S256x136 .bf16 :=
  VecWindow.put (VecWindow.put (k0_pay2 x1) ![0, 129] S256x1.size (k0_pay5 (VecWindow.window l ![0, 0] S256x1.size inb_S256x128_S256x1_0_0)))
    ![0, 130] S256x1.size (k0_pay6 (VecWindow.window l ![0, 0] S256x1.size inb_S256x128_S256x1_0_0))

/-- The step is the first of its row group. -/
abbrev isFirst (i : grid0.Coords) : Prop := (Scalar.cmpi .ne (Scalar.extui (Scalar.cmpi .eq (BitVec.ofNat 32 (i 1).val) 0#32)) 0#32) = 1#1
/-- The step is the last of its row group. -/
abbrev isLast (i : grid0.Coords) : Prop := (Scalar.cmpi .ne (Scalar.extui (Scalar.cmpi .eq (BitVec.ofNat 32 (i 1).val) 19#32)) 0#32) = 1#1
/-- The step writes an output block. -/
abbrev doesOut (i : grid0.Coords) : Prop := k0_cond1 i = 1#1
/-- The step updates the statistics. -/
abbrev doesStats (i : grid0.Coords) : Prop := (Scalar.cmpi .ne (Scalar.extui (Scalar.cmpi .slt (BitVec.ofNat 32 (i 0).val) 4#32)) 0#32) = 1#1

/-! ## Loads and stores of the body's own rectangles -/

/-- A load of a whole context block reads what the block holds. -/
theorem ld_ctx (v : View sig .tc .vmem S256x136 .bf16) (f : v.ty.Contents (Elt F)) (h : ∀ a, (![0, 0] : Fin 2 → ℕ) a + (![256, 136] : Fin 2 → ℕ) a ≤ S256x136.size a) :
    v.readAt (Elt F) (Rect.unit (s := S256x136) ![0, 0] ![256, 136] h).toLoadRect f = v.read (Elt F) f :=
  View.readAt_full v f (off := ![0, 0]) h

/-- A load of a whole lane buffer reads what the buffer holds. -/
theorem ld_lane (v : View sig .tc .vmem S256x128 .f32) (f : v.ty.Contents (Elt F)) (h : ∀ a, (![0, 0] : Fin 2 → ℕ) a + (![256, 128] : Fin 2 → ℕ) a ≤ S256x128.size a) :
    v.readAt (Elt F) (Rect.unit (s := S256x128) ![0, 0] ![256, 128] h).toLoadRect f = v.read (Elt F) f :=
  View.readAt_full v f (off := ![0, 0]) h

/-- A load of a lane buffer's first column reads a window of what the buffer holds. -/
theorem ld_col (v : View sig .tc .vmem S256x128 .f32) (f : v.ty.Contents (Elt F)) (h : ∀ a, (![0, 0] : Fin 2 → ℕ) a + (![256, 1] : Fin 2 → ℕ) a ≤ S256x128.size a) :
    v.readAt (Elt F) (Rect.unit (s := S256x128) ![0, 0] ![256, 1] h).toLoadRect f
      = VecWindow.window (v.read (Elt F) f) ![0, 0] S256x1.size inb_S256x128_S256x1_0_0 := rfl

/-- A load of the step's weight columns reads a window of the weights. -/
theorem ld_wcols (i : grid0.Coords) (v : View sig .tc .vmem S136x102400 .bf16) (f : v.ty.Contents (Elt F)) (h : ∀ a, k0_off1 i a + (![136, 5120] : Fin 2 → ℕ) a ≤ S136x102400.size a) :
    v.readAt (Elt F) (Rect.unit (s := S136x102400) (k0_off1 i) ![136, 5120] h).toLoadRect f = wcols i (v.read (Elt F) f) := rfl

/-- A load of a whole context block after stores reads what those left. -/
theorem cov_ctx (v : View sig .tc .vmem S256x136 .bf16) (L : List (View.Piece (Elt F) S256x136 .bf16)) (h : ∀ a, (![0, 0] : Fin 2 → ℕ) a + (![256, 136] : Fin 2 → ℕ) a ≤ S256x136.size a) :
    v.readCov L (Rect.unit (s := S256x136) ![0, 0] ![256, 136] h).toLoadRect = v.read (Elt F) (v.writes (Elt F) v.junk L) :=
  View.readAt_full v _ (off := ![0, 0]) h

/-- A load of a whole lane buffer after stores reads what those left. -/
theorem cov_lane (v : View sig .tc .vmem S256x128 .f32) (L : List (View.Piece (Elt F) S256x128 .f32)) (h : ∀ a, (![0, 0] : Fin 2 → ℕ) a + (![256, 128] : Fin 2 → ℕ) a ≤ S256x128.size a) :
    v.readCov L (Rect.unit (s := S256x128) ![0, 0] ![256, 128] h).toLoadRect = v.read (Elt F) (v.writes (Elt F) v.junk L) :=
  View.readAt_full v _ (off := ![0, 0]) h

/-- A store of a whole context block leaves its payload. -/
theorem st_ctx (v : View sig .tc .vmem S256x136 .bf16) (f : v.ty.Contents (Elt F)) (h : ∀ a, (![0, 0] : Fin 2 → ℕ) a + (![256, 136] : Fin 2 → ℕ) a ≤ S256x136.size a)
    (w : Vec F S256x136 .bf16) (L : List (View.Piece (Elt F) S256x136 .bf16)) :
    v.read (Elt F) (v.writes (Elt F) f ((⟨Rect.unit (s := S256x136) ![0, 0] ![256, 136] h, w⟩ : View.Piece (Elt F) S256x136 .bf16) :: L)) = w :=
  View.read_writes_full v f (off := ![0, 0]) h w L

/-- A store of a whole lane buffer leaves its payload. -/
theorem st_lane (v : View sig .tc .vmem S256x128 .f32) (f : v.ty.Contents (Elt F)) (h : ∀ a, (![0, 0] : Fin 2 → ℕ) a + (![256, 128] : Fin 2 → ℕ) a ≤ S256x128.size a)
    (w : Vec F S256x128 .f32) (L : List (View.Piece (Elt F) S256x128 .f32)) :
    v.read (Elt F) (v.writes (Elt F) f ((⟨Rect.unit (s := S256x128) ![0, 0] ![256, 128] h, w⟩ : View.Piece (Elt F) S256x128 .f32) :: L)) = w :=
  View.read_writes_full v f (off := ![0, 0]) h w L

/-- A store of a whole output block leaves its payload. -/
theorem st_out (v : View sig .tc .vmem S256x5120 .f32) (f : v.ty.Contents (Elt F)) (h : ∀ a, (![0, 0] : Fin 2 → ℕ) a + (![256, 5120] : Fin 2 → ℕ) a ≤ S256x5120.size a)
    (w : Vec F S256x5120 .f32) (L : List (View.Piece (Elt F) S256x5120 .f32)) :
    v.read (Elt F) (v.writes (Elt F) f ((⟨Rect.unit (s := S256x5120) ![0, 0] ![256, 5120] h, w⟩ : View.Piece (Elt F) S256x5120 .f32) :: L)) = w :=
  View.read_writes_full v f (off := ![0, 0]) h w L

/-- A store of column 129 of the output operand puts that column over what was there. -/
theorem st_hi (v : View sig .tc .vmem S256x136 .bf16) (f : v.ty.Contents (Elt F)) (h : ∀ a, (![0, 129] : Fin 2 → ℕ) a + (![256, 1] : Fin 2 → ℕ) a ≤ S256x136.size a)
    (w : Vec F S256x1 .bf16) (L : List (View.Piece (Elt F) S256x136 .bf16)) :
    v.read (Elt F) (v.writes (Elt F) f ((⟨Rect.unit (s := S256x136) ![0, 129] ![256, 1] h, w⟩ : View.Piece (Elt F) S256x136 .bf16) :: L))
      = VecWindow.put (v.read (Elt F) (v.writes (Elt F) f L)) ![0, 129] S256x1.size w :=
  View.read_writes_cons_put v f h w L rfl

/-- A store of column 130 of the output operand puts that column over what was there. -/
theorem st_lo (v : View sig .tc .vmem S256x136 .bf16) (f : v.ty.Contents (Elt F)) (h : ∀ a, (![0, 130] : Fin 2 → ℕ) a + (![256, 1] : Fin 2 → ℕ) a ≤ S256x136.size a)
    (w : Vec F S256x1 .bf16) (L : List (View.Piece (Elt F) S256x136 .bf16)) :
    v.read (Elt F) (v.writes (Elt F) f ((⟨Rect.unit (s := S256x136) ![0, 130] ![256, 1] h, w⟩ : View.Piece (Elt F) S256x136 .bf16) :: L))
      = VecWindow.put (v.read (Elt F) (v.writes (Elt F) f L)) ![0, 130] S256x1.size w :=
  View.read_writes_cons_put v f h w L rfl

/-! ## What a step leaves -/

/-- The body at step `i` runs from what its memory holds (`x…`) to what it is left with (`y…`). -/
def Runs (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (y3 : Vec F S256x5120 .f32) (ys0 ys1 ys2 : Vec F S256x128 .f32) (ys3 : Vec F S256x136 .bf16) : Prop :=
  ∀ (arg2 : Memref sig .tc .vmem S256x136 .bf16) (harg2 : arg2.IsWhole) (arg3 : Memref sig .tc .vmem S256x136 .bf16) (harg3 : arg3.IsWhole) (arg4 : Memref sig .tc .vmem S136x102400 .bf16) (harg4 : arg4.IsWhole) (arg5 : Memref sig .tc .vmem S256x5120 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x136 .bf16) (harg9 : arg9.IsWhole)
    (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs0 ∗ owns (c : Thread nD τ) arg7 fullShare xs1 ∗ owns (c : Thread nD τ) arg8 fullShare xs2 ∗ owns (c : Thread nD τ) arg9 fullShare xs3
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare ys0 ∗ owns (c : Thread nD τ) arg7 fullShare ys1 ∗ owns (c : Thread nD τ) arg8 fullShare ys2 ∗ owns (c : Thread nD τ) arg9 fullShare ys3) -∗ K ⟨⟩))
      ⊢ wp frame (wpE (defs₀ (F := F)) Variants.none c none) E (cc0__body i arg2 harg2 arg3 harg3 arg4 harg4 arg5 harg5 arg6 harg6 arg7 harg7 arg8 harg8 arg9 harg9) K

/-- The output operand after the step: rebuilt at a row group's first writing step, kept otherwise. -/
def nextCo (i : grid0.Coords) (x1 : Vec F S256x136 .bf16) (xs2 : Vec F S256x128 .f32) (xs3 : Vec F S256x136 .bf16) : Vec F S256x136 .bf16 :=
  if doesOut i then (if isFirst i then mkCo x1 xs2 else xs3) else xs3

/-- The output block after the step: the product at a writing step, kept otherwise. -/
def nextOut (i : grid0.Coords) (x1 : Vec F S256x136 .bf16) (x2 : Vec F S136x102400 .bf16) (x3 : Vec F S256x5120 .f32)
    (xs2 : Vec F S256x128 .f32) (xs3 : Vec F S256x136 .bf16) : Vec F S256x5120 .f32 :=
  if doesOut i then k0_pay7 (wcols i x2) (nextCo i x1 xs2 xs3) else x3

/-- The maxima the step starts from: the constant at a row group's first step. -/
def startM (i : grid0.Coords) (xs0 : Vec F S256x128 .f32) : Vec F S256x128 .f32 := if isFirst i then k0_pay12 else xs0

/-- The sums the step starts from: the constant at a row group's first step. -/
def startS (i : grid0.Coords) (xs1 : Vec F S256x128 .f32) : Vec F S256x128 .f32 := if isFirst i then k0_pay13 else xs1

/-- The maxima after the step. -/
def nextM (i : grid0.Coords) (x0 : Vec F S256x136 .bf16) (x2 : Vec F S136x102400 .bf16) (xs0 : Vec F S256x128 .f32) : Vec F S256x128 .f32 :=
  if doesStats i then k0_pay9 (newM x0 (wcols i x2) (startM i xs0)) else xs0

/-- The sums after the step. -/
def nextS (i : grid0.Coords) (x0 : Vec F S256x136 .bf16) (x2 : Vec F S136x102400 .bf16) (xs0 xs1 : Vec F S256x128 .f32) : Vec F S256x128 .f32 :=
  if doesStats i then newS x0 (wcols i x2) (startM i xs0) (startS i xs1) else xs1

/-- The log-sum-exp buffer after the step: written at a row group's last step of statistics. -/
def nextL (i : grid0.Coords) (x0 : Vec F S256x136 .bf16) (x2 : Vec F S136x102400 .bf16) (xs0 xs1 xs2 : Vec F S256x128 .f32) : Vec F S256x128 .f32 :=
  if doesStats i then (if isLast i then k0_pay10 (nextM i x0 x2 xs0) (nextS i x0 x2 xs0 xs1) else xs2) else xs2

end Cert.KernelIdeal.Body

end
-- ==== Proof.KernelIdeal.RunsOut.lean ====
/- The body's runs at the steps that write an output block. -/
module

public import proofs.«01_k».proof.Proof.KernelIdeal.BodyDefs

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The body's run at a step that is: writing, with statistics, first of its row group, last of its row group. -/
theorem run_OSFL (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : doesOut i) (hS : doesStats i) (hF : isFirst i) (hL : isLast i) :
    Runs c i x0 x1 x2 x3 xs0 xs1 xs2 xs3
      (k0_pay7 (wcols i x2) (mkCo x1 xs2))
      (k0_pay9 (newM x0 (wcols i x2) k0_pay12))
      (newS x0 (wcols i x2) k0_pay12 k0_pay13)
      (k0_pay10 (k0_pay9 (newM x0 (wcols i x2) k0_pay12)) (newS x0 (wcols i x2) k0_pay12 k0_pay13))
      (mkCo x1 xs2) := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS | sl_exact hF | sl_exact hL)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    repeat (first | delta run_OSFL.sl.r | delta run_OSFL.sl.r_1 | delta run_OSFL.sl.r_2 | delta run_OSFL.sl.r_3 | delta run_OSFL.sl.r_4 | delta run_OSFL.sl.r_5 | delta run_OSFL.sl.r_6 | delta run_OSFL.sl.r_7 | delta run_OSFL.sl.r_8 | delta run_OSFL.sl.r_9 | delta run_OSFL.sl.r_10 | delta run_OSFL.sl.r_11 | delta run_OSFL.sl.r_12 | delta run_OSFL.sl.H3_1 | delta run_OSFL.sl.HS0_1 | delta run_OSFL.sl.HS0_2 | delta run_OSFL.sl.HS0_3 | delta run_OSFL.sl.HS1_1 | delta run_OSFL.sl.HS1_2 | delta run_OSFL.sl.HS1_3 | delta run_OSFL.sl.HS2_1 | delta run_OSFL.sl.HS2_2 | delta run_OSFL.sl.HS2_3 | delta run_OSFL.sl.HS3_1 | delta run_OSFL.sl.HS3_2 | delta run_OSFL.sl.HS3_3 | delta run_OSFL.sl.v2 | delta run_OSFL.sl.v10 | delta run_OSFL.sl.v13 | delta run_OSFL.sl.v16 | delta run_OSFL.sl.v21 | delta run_OSFL.sl.v95 | delta run_OSFL.sl.v97 | delta run_OSFL.sl.v270 | delta run_OSFL.sl.v271)
    simp only [ld_ctx, ld_lane, ld_col, ld_wcols, cov_ctx, cov_lane, st_ctx, st_lane, st_out, st_hi, st_lo, hf0, hf1, hf2, hfs0, hfs1, hfs2, hfs3]
    try rfl
  isplitl [HS0]
  · iexists _; isplitr; swap; · iexact HS0
    ipureintro
    repeat (first | delta run_OSFL.sl.r | delta run_OSFL.sl.r_1 | delta run_OSFL.sl.r_2 | delta run_OSFL.sl.r_3 | delta run_OSFL.sl.r_4 | delta run_OSFL.sl.r_5 | delta run_OSFL.sl.r_6 | delta run_OSFL.sl.r_7 | delta run_OSFL.sl.r_8 | delta run_OSFL.sl.r_9 | delta run_OSFL.sl.r_10 | delta run_OSFL.sl.r_11 | delta run_OSFL.sl.r_12 | delta run_OSFL.sl.H3_1 | delta run_OSFL.sl.HS0_1 | delta run_OSFL.sl.HS0_2 | delta run_OSFL.sl.HS0_3 | delta run_OSFL.sl.HS1_1 | delta run_OSFL.sl.HS1_2 | delta run_OSFL.sl.HS1_3 | delta run_OSFL.sl.HS2_1 | delta run_OSFL.sl.HS2_2 | delta run_OSFL.sl.HS2_3 | delta run_OSFL.sl.HS3_1 | delta run_OSFL.sl.HS3_2 | delta run_OSFL.sl.HS3_3 | delta run_OSFL.sl.v2 | delta run_OSFL.sl.v10 | delta run_OSFL.sl.v13 | delta run_OSFL.sl.v16 | delta run_OSFL.sl.v21 | delta run_OSFL.sl.v95 | delta run_OSFL.sl.v97 | delta run_OSFL.sl.v270 | delta run_OSFL.sl.v271)
    simp only [ld_ctx, ld_lane, ld_col, ld_wcols, cov_ctx, cov_lane, st_ctx, st_lane, st_out, st_hi, st_lo, hf0, hf1, hf2, hfs0, hfs1, hfs2, hfs3]
    try rfl
  isplitl [HS1]
  · iexists _; isplitr; swap; · iexact HS1
    ipureintro
    repeat (first | delta run_OSFL.sl.r | delta run_OSFL.sl.r_1 | delta run_OSFL.sl.r_2 | delta run_OSFL.sl.r_3 | delta run_OSFL.sl.r_4 | delta run_OSFL.sl.r_5 | delta run_OSFL.sl.r_6 | delta run_OSFL.sl.r_7 | delta run_OSFL.sl.r_8 | delta run_OSFL.sl.r_9 | delta run_OSFL.sl.r_10 | delta run_OSFL.sl.r_11 | delta run_OSFL.sl.r_12 | delta run_OSFL.sl.H3_1 | delta run_OSFL.sl.HS0_1 | delta run_OSFL.sl.HS0_2 | delta run_OSFL.sl.HS0_3 | delta run_OSFL.sl.HS1_1 | delta run_OSFL.sl.HS1_2 | delta run_OSFL.sl.HS1_3 | delta run_OSFL.sl.HS2_1 | delta run_OSFL.sl.HS2_2 | delta run_OSFL.sl.HS2_3 | delta run_OSFL.sl.HS3_1 | delta run_OSFL.sl.HS3_2 | delta run_OSFL.sl.HS3_3 | delta run_OSFL.sl.v2 | delta run_OSFL.sl.v10 | delta run_OSFL.sl.v13 | delta run_OSFL.sl.v16 | delta run_OSFL.sl.v21 | delta run_OSFL.sl.v95 | delta run_OSFL.sl.v97 | delta run_OSFL.sl.v270 | delta run_OSFL.sl.v271)
    simp only [ld_ctx, ld_lane, ld_col, ld_wcols, cov_ctx, cov_lane, st_ctx, st_lane, st_out, st_hi, st_lo, hf0, hf1, hf2, hfs0, hfs1, hfs2, hfs3]
    try rfl
  isplitl [HS2]
  · iexists _; isplitr; swap; · iexact HS2
    ipureintro
    repeat (first | delta run_OSFL.sl.r | delta run_OSFL.sl.r_1 | delta run_OSFL.sl.r_2 | delta run_OSFL.sl.r_3 | delta run_OSFL.sl.r_4 | delta run_OSFL.sl.r_5 | delta run_OSFL.sl.r_6 | delta run_OSFL.sl.r_7 | delta run_OSFL.sl.r_8 | delta run_OSFL.sl.r_9 | delta run_OSFL.sl.r_10 | delta run_OSFL.sl.r_11 | delta run_OSFL.sl.r_12 | delta run_OSFL.sl.H3_1 | delta run_OSFL.sl.HS0_1 | delta run_OSFL.sl.HS0_2 | delta run_OSFL.sl.HS0_3 | delta run_OSFL.sl.HS1_1 | delta run_OSFL.sl.HS1_2 | delta run_OSFL.sl.HS1_3 | delta run_OSFL.sl.HS2_1 | delta run_OSFL.sl.HS2_2 | delta run_OSFL.sl.HS2_3 | delta run_OSFL.sl.HS3_1 | delta run_OSFL.sl.HS3_2 | delta run_OSFL.sl.HS3_3 | delta run_OSFL.sl.v2 | delta run_OSFL.sl.v10 | delta run_OSFL.sl.v13 | delta run_OSFL.sl.v16 | delta run_OSFL.sl.v21 | delta run_OSFL.sl.v95 | delta run_OSFL.sl.v97 | delta run_OSFL.sl.v270 | delta run_OSFL.sl.v271)
    simp only [ld_ctx, ld_lane, ld_col, ld_wcols, cov_ctx, cov_lane, st_ctx, st_lane, st_out, st_hi, st_lo, hf0, hf1, hf2, hfs0, hfs1, hfs2, hfs3]
    try rfl
  · iexists _; isplitr; swap; · iexact HS3
    ipureintro
    repeat (first | delta run_OSFL.sl.r | delta run_OSFL.sl.r_1 | delta run_OSFL.sl.r_2 | delta run_OSFL.sl.r_3 | delta run_OSFL.sl.r_4 | delta run_OSFL.sl.r_5 | delta run_OSFL.sl.r_6 | delta run_OSFL.sl.r_7 | delta run_OSFL.sl.r_8 | delta run_OSFL.sl.r_9 | delta run_OSFL.sl.r_10 | delta run_OSFL.sl.r_11 | delta run_OSFL.sl.r_12 | delta run_OSFL.sl.H3_1 | delta run_OSFL.sl.HS0_1 | delta run_OSFL.sl.HS0_2 | delta run_OSFL.sl.HS0_3 | delta run_OSFL.sl.HS1_1 | delta run_OSFL.sl.HS1_2 | delta run_OSFL.sl.HS1_3 | delta run_OSFL.sl.HS2_1 | delta run_OSFL.sl.HS2_2 | delta run_OSFL.sl.HS2_3 | delta run_OSFL.sl.HS3_1 | delta run_OSFL.sl.HS3_2 | delta run_OSFL.sl.HS3_3 | delta run_OSFL.sl.v2 | delta run_OSFL.sl.v10 | delta run_OSFL.sl.v13 | delta run_OSFL.sl.v16 | delta run_OSFL.sl.v21 | delta run_OSFL.sl.v95 | delta run_OSFL.sl.v97 | delta run_OSFL.sl.v270 | delta run_OSFL.sl.v271)
    simp only [ld_ctx, ld_lane, ld_col, ld_wcols, cov_ctx, cov_lane, st_ctx, st_lane, st_out, st_hi, st_lo, hf0, hf1, hf2, hfs0, hfs1, hfs2, hfs3]
    try rfl

set_option maxHeartbeats 1000000 in
/-- The body's run at a step that is: writing, with statistics, first of its row group, not the last of its row group. -/
theorem run_OSFl (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : doesOut i) (hS : doesStats i) (hF : isFirst i) (hL : ¬isLast i) :
    Runs c i x0 x1 x2 x3 xs0 xs1 xs2 xs3
      (k0_pay7 (wcols i x2) (mkCo x1 xs2))
      (k0_pay9 (newM x0 (wcols i x2) k0_pay12))
      (newS x0 (wcols i x2) k0_pay12 k0_pay13)
      xs2
      (mkCo x1 xs2) := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS | sl_exact hF | sl_exact hL)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    repeat (first | delta run_OSFl.sl.r | delta run_OSFl.sl.r_1 | delta run_OSFl.sl.r_2 | delta run_OSFl.sl.r_3 | delta run_OSFl.sl.r_4 | delta run_OSFl.sl.r_5 | delta run_OSFl.sl.r_6 | delta run_OSFl.sl.r_7 | delta run_OSFl.sl.r_8 | delta run_OSFl.sl.r_9 | delta run_OSFl.sl.r_10 | delta run_OSFl.sl.r_11 | delta run_OSFl.sl.r_12 | delta run_OSFl.sl.H3_1 | delta run_OSFl.sl.HS0_1 | delta run_OSFl.sl.HS0_2 | delta run_OSFl.sl.HS0_3 | delta run_OSFl.sl.HS1_1 | delta run_OSFl.sl.HS1_2 | delta run_OSFl.sl.HS1_3 | delta run_OSFl.sl.HS2_1 | delta run_OSFl.sl.HS2_2 | delta run_OSFl.sl.HS2_3 | delta run_OSFl.sl.HS3_1 | delta run_OSFl.sl.HS3_2 | delta run_OSFl.sl.HS3_3 | delta run_OSFl.sl.v2 | delta run_OSFl.sl.v10 | delta run_OSFl.sl.v13 | delta run_OSFl.sl.v16 | delta run_OSFl.sl.v21 | delta run_OSFl.sl.v95 | delta run_OSFl.sl.v97 | delta run_OSFl.sl.v270 | delta run_OSFl.sl.v271)
    simp only [ld_ctx, ld_lane, ld_col, ld_wcols, cov_ctx, cov_lane, st_ctx, st_lane, st_out, st_hi, st_lo, hf0, hf1, hf2, hfs0, hfs1, hfs2, hfs3]
    try rfl
  isplitl [HS0]
  · iexists _; isplitr; swap; · iexact HS0
    ipureintro
    repeat (first | delta run_OSFl.sl.r | delta run_OSFl.sl.r_1 | delta run_OSFl.sl.r_2 | delta run_OSFl.sl.r_3 | delta run_OSFl.sl.r_4 | delta run_OSFl.sl.r_5 | delta run_OSFl.sl.r_6 | delta run_OSFl.sl.r_7 | delta run_OSFl.sl.r_8 | delta run_OSFl.sl.r_9 | delta run_OSFl.sl.r_10 | delta run_OSFl.sl.r_11 | delta run_OSFl.sl.r_12 | delta run_OSFl.sl.H3_1 | delta run_OSFl.sl.HS0_1 | delta run_OSFl.sl.HS0_2 | delta run_OSFl.sl.HS0_3 | delta run_OSFl.sl.HS1_1 | delta run_OSFl.sl.HS1_2 | delta run_OSFl.sl.HS1_3 | delta run_OSFl.sl.HS2_1 | delta run_OSFl.sl.HS2_2 | delta run_OSFl.sl.HS2_3 | delta run_OSFl.sl.HS3_1 | delta run_OSFl.sl.HS3_2 | delta run_OSFl.sl.HS3_3 | delta run_OSFl.sl.v2 | delta run_OSFl.sl.v10 | delta run_OSFl.sl.v13 | delta run_OSFl.sl.v16 | delta run_OSFl.sl.v21 | delta run_OSFl.sl.v95 | delta run_OSFl.sl.v97 | delta run_OSFl.sl.v270 | delta run_OSFl.sl.v271)
    simp only [ld_ctx, ld_lane, ld_col, ld_wcols, cov_ctx, cov_lane, st_ctx, st_lane, st_out, st_hi, st_lo, hf0, hf1, hf2, hfs0, hfs1, hfs2, hfs3]
    try rfl
  isplitl [HS1]
  · iexists _; isplitr; swap; · iexact HS1
    ipureintro
    repeat (first | delta run_OSFl.sl.r | delta run_OSFl.sl.r_1 | delta run_OSFl.sl.r_2 | delta run_OSFl.sl.r_3 | delta run_OSFl.sl.r_4 | delta run_OSFl.sl.r_5 | delta run_OSFl.sl.r_6 | delta run_OSFl.sl.r_7 | delta run_OSFl.sl.r_8 | delta run_OSFl.sl.r_9 | delta run_OSFl.sl.r_10 | delta run_OSFl.sl.r_11 | delta run_OSFl.sl.r_12 | delta run_OSFl.sl.H3_1 | delta run_OSFl.sl.HS0_1 | delta run_OSFl.sl.HS0_2 | delta run_OSFl.sl.HS0_3 | delta run_OSFl.sl.HS1_1 | delta run_OSFl.sl.HS1_2 | delta run_OSFl.sl.HS1_3 | delta run_OSFl.sl.HS2_1 | delta run_OSFl.sl.HS2_2 | delta run_OSFl.sl.HS2_3 | delta run_OSFl.sl.HS3_1 | delta run_OSFl.sl.HS3_2 | delta run_OSFl.sl.HS3_3 | delta run_OSFl.sl.v2 | delta run_OSFl.sl.v10 | delta run_OSFl.sl.v13 | delta run_OSFl.sl.v16 | delta run_OSFl.sl.v21 | delta run_OSFl.sl.v95 | delta run_OSFl.sl.v97 | delta run_OSFl.sl.v270 | delta run_OSFl.sl.v271)
    simp only [ld_ctx, ld_lane, ld_col, ld_wcols, cov_ctx, cov_lane, st_ctx, st_lane, st_out, st_hi, st_lo, hf0, hf1, hf2, hfs0, hfs1, hfs2, hfs3]
    try rfl
  isplitl [HS2]
  · iexists _; isplitr; swap; · iexact HS2
    ipureintro; exact hfs2
  · iexists _; isplitr; swap; · iexact HS3
    ipureintro
    repeat (first | delta run_OSFl.sl.r | delta run_OSFl.sl.r_1 | delta run_OSFl.sl.r_2 | delta run_OSFl.sl.r_3 | delta run_OSFl.sl.r_4 | delta run_OSFl.sl.r_5 | delta run_OSFl.sl.r_6 | delta run_OSFl.sl.r_7 | delta run_OSFl.sl.r_8 | delta run_OSFl.sl.r_9 | delta run_OSFl.sl.r_10 | delta run_OSFl.sl.r_11 | delta run_OSFl.sl.r_12 | delta run_OSFl.sl.H3_1 | delta run_OSFl.sl.HS0_1 | delta run_OSFl.sl.HS0_2 | delta run_OSFl.sl.HS0_3 | delta run_OSFl.sl.HS1_1 | delta run_OSFl.sl.HS1_2 | delta run_OSFl.sl.HS1_3 | delta run_OSFl.sl.HS2_1 | delta run_OSFl.sl.HS2_2 | delta run_OSFl.sl.HS2_3 | delta run_OSFl.sl.HS3_1 | delta run_OSFl.sl.HS3_2 | delta run_OSFl.sl.HS3_3 | delta run_OSFl.sl.v2 | delta run_OSFl.sl.v10 | delta run_OSFl.sl.v13 | delta run_OSFl.sl.v16 | delta run_OSFl.sl.v21 | delta run_OSFl.sl.v95 | delta run_OSFl.sl.v97 | delta run_OSFl.sl.v270 | delta run_OSFl.sl.v271)
    simp only [ld_ctx, ld_lane, ld_col, ld_wcols, cov_ctx, cov_lane, st_ctx, st_lane, st_out, st_hi, st_lo, hf0, hf1, hf2, hfs0, hfs1, hfs2, hfs3]
    try rfl

set_option maxHeartbeats 1000000 in
/-- The body's run at a step that is: writing, with statistics, not the first of its row group, last of its row group. -/
theorem run_OSfL (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : doesOut i) (hS : doesStats i) (hF : ¬isFirst i) (hL : isLast i) :
    Runs c i x0 x1 x2 x3 xs0 xs1 xs2 xs3
      (k0_pay7 (wcols i x2) xs3)
      (k0_pay9 (newM x0 (wcols i x2) xs0))
      (newS x0 (wcols i x2) xs0 xs1)
      (k0_pay10 (k0_pay9 (newM x0 (wcols i x2) xs0)) (newS x0 (wcols i x2) xs0 xs1))
      xs3 := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS | sl_exact hF | sl_exact hL)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    repeat (first | delta run_OSfL.sl.r | delta run_OSfL.sl.r_1 | delta run_OSfL.sl.r_2 | delta run_OSfL.sl.r_3 | delta run_OSfL.sl.r_4 | delta run_OSfL.sl.r_5 | delta run_OSfL.sl.r_6 | delta run_OSfL.sl.r_7 | delta run_OSfL.sl.r_8 | delta run_OSfL.sl.r_9 | delta run_OSfL.sl.r_10 | delta run_OSfL.sl.r_11 | delta run_OSfL.sl.r_12 | delta run_OSfL.sl.H3_1 | delta run_OSfL.sl.HS0_1 | delta run_OSfL.sl.HS0_2 | delta run_OSfL.sl.HS0_3 | delta run_OSfL.sl.HS1_1 | delta run_OSfL.sl.HS1_2 | delta run_OSfL.sl.HS1_3 | delta run_OSfL.sl.HS2_1 | delta run_OSfL.sl.HS2_2 | delta run_OSfL.sl.HS2_3 | delta run_OSfL.sl.HS3_1 | delta run_OSfL.sl.HS3_2 | delta run_OSfL.sl.HS3_3 | delta run_OSfL.sl.v2 | delta run_OSfL.sl.v10 | delta run_OSfL.sl.v13 | delta run_OSfL.sl.v16 | delta run_OSfL.sl.v21 | delta run_OSfL.sl.v95 | delta run_OSfL.sl.v97 | delta run_OSfL.sl.v270 | delta run_OSfL.sl.v271)
    simp only [ld_ctx, ld_lane, ld_col, ld_wcols, cov_ctx, cov_lane, st_ctx, st_lane, st_out, st_hi, st_lo, hf0, hf1, hf2, hfs0, hfs1, hfs2, hfs3]
    try rfl
  isplitl [HS0]
  · iexists _; isplitr; swap; · iexact HS0
    ipureintro
    repeat (first | delta run_OSfL.sl.r | delta run_OSfL.sl.r_1 | delta run_OSfL.sl.r_2 | delta run_OSfL.sl.r_3 | delta run_OSfL.sl.r_4 | delta run_OSfL.sl.r_5 | delta run_OSfL.sl.r_6 | delta run_OSfL.sl.r_7 | delta run_OSfL.sl.r_8 | delta run_OSfL.sl.r_9 | delta run_OSfL.sl.r_10 | delta run_OSfL.sl.r_11 | delta run_OSfL.sl.r_12 | delta run_OSfL.sl.H3_1 | delta run_OSfL.sl.HS0_1 | delta run_OSfL.sl.HS0_2 | delta run_OSfL.sl.HS0_3 | delta run_OSfL.sl.HS1_1 | delta run_OSfL.sl.HS1_2 | delta run_OSfL.sl.HS1_3 | delta run_OSfL.sl.HS2_1 | delta run_OSfL.sl.HS2_2 | delta run_OSfL.sl.HS2_3 | delta run_OSfL.sl.HS3_1 | delta run_OSfL.sl.HS3_2 | delta run_OSfL.sl.HS3_3 | delta run_OSfL.sl.v2 | delta run_OSfL.sl.v10 | delta run_OSfL.sl.v13 | delta run_OSfL.sl.v16 | delta run_OSfL.sl.v21 | delta run_OSfL.sl.v95 | delta run_OSfL.sl.v97 | delta run_OSfL.sl.v270 | delta run_OSfL.sl.v271)
    simp only [ld_ctx, ld_lane, ld_col, ld_wcols, cov_ctx, cov_lane, st_ctx, st_lane, st_out, st_hi, st_lo, hf0, hf1, hf2, hfs0, hfs1, hfs2, hfs3]
    try rfl
  isplitl [HS1]
  · iexists _; isplitr; swap; · iexact HS1
    ipureintro
    repeat (first | delta run_OSfL.sl.r | delta run_OSfL.sl.r_1 | delta run_OSfL.sl.r_2 | delta run_OSfL.sl.r_3 | delta run_OSfL.sl.r_4 | delta run_OSfL.sl.r_5 | delta run_OSfL.sl.r_6 | delta run_OSfL.sl.r_7 | delta run_OSfL.sl.r_8 | delta run_OSfL.sl.r_9 | delta run_OSfL.sl.r_10 | delta run_OSfL.sl.r_11 | delta run_OSfL.sl.r_12 | delta run_OSfL.sl.H3_1 | delta run_OSfL.sl.HS0_1 | delta run_OSfL.sl.HS0_2 | delta run_OSfL.sl.HS0_3 | delta run_OSfL.sl.HS1_1 | delta run_OSfL.sl.HS1_2 | delta run_OSfL.sl.HS1_3 | delta run_OSfL.sl.HS2_1 | delta run_OSfL.sl.HS2_2 | delta run_OSfL.sl.HS2_3 | delta run_OSfL.sl.HS3_1 | delta run_OSfL.sl.HS3_2 | delta run_OSfL.sl.HS3_3 | delta run_OSfL.sl.v2 | delta run_OSfL.sl.v10 | delta run_OSfL.sl.v13 | delta run_OSfL.sl.v16 | delta run_OSfL.sl.v21 | delta run_OSfL.sl.v95 | delta run_OSfL.sl.v97 | delta run_OSfL.sl.v270 | delta run_OSfL.sl.v271)
    simp only [ld_ctx, ld_lane, ld_col, ld_wcols, cov_ctx, cov_lane, st_ctx, st_lane, st_out, st_hi, st_lo, hf0, hf1, hf2, hfs0, hfs1, hfs2, hfs3]
    try rfl
  isplitl [HS2]
  · iexists _; isplitr; swap; · iexact HS2
    ipureintro
    repeat (first | delta run_OSfL.sl.r | delta run_OSfL.sl.r_1 | delta run_OSfL.sl.r_2 | delta run_OSfL.sl.r_3 | delta run_OSfL.sl.r_4 | delta run_OSfL.sl.r_5 | delta run_OSfL.sl.r_6 | delta run_OSfL.sl.r_7 | delta run_OSfL.sl.r_8 | delta run_OSfL.sl.r_9 | delta run_OSfL.sl.r_10 | delta run_OSfL.sl.r_11 | delta run_OSfL.sl.r_12 | delta run_OSfL.sl.H3_1 | delta run_OSfL.sl.HS0_1 | delta run_OSfL.sl.HS0_2 | delta run_OSfL.sl.HS0_3 | delta run_OSfL.sl.HS1_1 | delta run_OSfL.sl.HS1_2 | delta run_OSfL.sl.HS1_3 | delta run_OSfL.sl.HS2_1 | delta run_OSfL.sl.HS2_2 | delta run_OSfL.sl.HS2_3 | delta run_OSfL.sl.HS3_1 | delta run_OSfL.sl.HS3_2 | delta run_OSfL.sl.HS3_3 | delta run_OSfL.sl.v2 | delta run_OSfL.sl.v10 | delta run_OSfL.sl.v13 | delta run_OSfL.sl.v16 | delta run_OSfL.sl.v21 | delta run_OSfL.sl.v95 | delta run_OSfL.sl.v97 | delta run_OSfL.sl.v270 | delta run_OSfL.sl.v271)
    simp only [ld_ctx, ld_lane, ld_col, ld_wcols, cov_ctx, cov_lane, st_ctx, st_lane, st_out, st_hi, st_lo, hf0, hf1, hf2, hfs0, hfs1, hfs2, hfs3]
    try rfl
  · iexists _; isplitr; swap; · iexact HS3
    ipureintro; exact hfs3

set_option maxHeartbeats 1000000 in
/-- The body's run at a step that is: writing, with statistics, not the first of its row group, not the last of its row group. -/
theorem run_OSfl (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : doesOut i) (hS : doesStats i) (hF : ¬isFirst i) (hL : ¬isLast i) :
    Runs c i x0 x1 x2 x3 xs0 xs1 xs2 xs3
      (k0_pay7 (wcols i x2) xs3)
      (k0_pay9 (newM x0 (wcols i x2) xs0))
      (newS x0 (wcols i x2) xs0 xs1)
      xs2
      xs3 := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS | sl_exact hF | sl_exact hL)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    repeat (first | delta run_OSfl.sl.r | delta run_OSfl.sl.r_1 | delta run_OSfl.sl.r_2 | delta run_OSfl.sl.r_3 | delta run_OSfl.sl.r_4 | delta run_OSfl.sl.r_5 | delta run_OSfl.sl.r_6 | delta run_OSfl.sl.r_7 | delta run_OSfl.sl.r_8 | delta run_OSfl.sl.r_9 | delta run_OSfl.sl.r_10 | delta run_OSfl.sl.r_11 | delta run_OSfl.sl.r_12 | delta run_OSfl.sl.H3_1 | delta run_OSfl.sl.HS0_1 | delta run_OSfl.sl.HS0_2 | delta run_OSfl.sl.HS0_3 | delta run_OSfl.sl.HS1_1 | delta run_OSfl.sl.HS1_2 | delta run_OSfl.sl.HS1_3 | delta run_OSfl.sl.HS2_1 | delta run_OSfl.sl.HS2_2 | delta run_OSfl.sl.HS2_3 | delta run_OSfl.sl.HS3_1 | delta run_OSfl.sl.HS3_2 | delta run_OSfl.sl.HS3_3 | delta run_OSfl.sl.v2 | delta run_OSfl.sl.v10 | delta run_OSfl.sl.v13 | delta run_OSfl.sl.v16 | delta run_OSfl.sl.v21 | delta run_OSfl.sl.v95 | delta run_OSfl.sl.v97 | delta run_OSfl.sl.v270 | delta run_OSfl.sl.v271)
    simp only [ld_ctx, ld_lane, ld_col, ld_wcols, cov_ctx, cov_lane, st_ctx, st_lane, st_out, st_hi, st_lo, hf0, hf1, hf2, hfs0, hfs1, hfs2, hfs3]
    try rfl
  isplitl [HS0]
  · iexists _; isplitr; swap; · iexact HS0
    ipureintro
    repeat (first | delta run_OSfl.sl.r | delta run_OSfl.sl.r_1 | delta run_OSfl.sl.r_2 | delta run_OSfl.sl.r_3 | delta run_OSfl.sl.r_4 | delta run_OSfl.sl.r_5 | delta run_OSfl.sl.r_6 | delta run_OSfl.sl.r_7 | delta run_OSfl.sl.r_8 | delta run_OSfl.sl.r_9 | delta run_OSfl.sl.r_10 | delta run_OSfl.sl.r_11 | delta run_OSfl.sl.r_12 | delta run_OSfl.sl.H3_1 | delta run_OSfl.sl.HS0_1 | delta run_OSfl.sl.HS0_2 | delta run_OSfl.sl.HS0_3 | delta run_OSfl.sl.HS1_1 | delta run_OSfl.sl.HS1_2 | delta run_OSfl.sl.HS1_3 | delta run_OSfl.sl.HS2_1 | delta run_OSfl.sl.HS2_2 | delta run_OSfl.sl.HS2_3 | delta run_OSfl.sl.HS3_1 | delta run_OSfl.sl.HS3_2 | delta run_OSfl.sl.HS3_3 | delta run_OSfl.sl.v2 | delta run_OSfl.sl.v10 | delta run_OSfl.sl.v13 | delta run_OSfl.sl.v16 | delta run_OSfl.sl.v21 | delta run_OSfl.sl.v95 | delta run_OSfl.sl.v97 | delta run_OSfl.sl.v270 | delta run_OSfl.sl.v271)
    simp only [ld_ctx, ld_lane, ld_col, ld_wcols, cov_ctx, cov_lane, st_ctx, st_lane, st_out, st_hi, st_lo, hf0, hf1, hf2, hfs0, hfs1, hfs2, hfs3]
    try rfl
  isplitl [HS1]
  · iexists _; isplitr; swap; · iexact HS1
    ipureintro
    repeat (first | delta run_OSfl.sl.r | delta run_OSfl.sl.r_1 | delta run_OSfl.sl.r_2 | delta run_OSfl.sl.r_3 | delta run_OSfl.sl.r_4 | delta run_OSfl.sl.r_5 | delta run_OSfl.sl.r_6 | delta run_OSfl.sl.r_7 | delta run_OSfl.sl.r_8 | delta run_OSfl.sl.r_9 | delta run_OSfl.sl.r_10 | delta run_OSfl.sl.r_11 | delta run_OSfl.sl.r_12 | delta run_OSfl.sl.H3_1 | delta run_OSfl.sl.HS0_1 | delta run_OSfl.sl.HS0_2 | delta run_OSfl.sl.HS0_3 | delta run_OSfl.sl.HS1_1 | delta run_OSfl.sl.HS1_2 | delta run_OSfl.sl.HS1_3 | delta run_OSfl.sl.HS2_1 | delta run_OSfl.sl.HS2_2 | delta run_OSfl.sl.HS2_3 | delta run_OSfl.sl.HS3_1 | delta run_OSfl.sl.HS3_2 | delta run_OSfl.sl.HS3_3 | delta run_OSfl.sl.v2 | delta run_OSfl.sl.v10 | delta run_OSfl.sl.v13 | delta run_OSfl.sl.v16 | delta run_OSfl.sl.v21 | delta run_OSfl.sl.v95 | delta run_OSfl.sl.v97 | delta run_OSfl.sl.v270 | delta run_OSfl.sl.v271)
    simp only [ld_ctx, ld_lane, ld_col, ld_wcols, cov_ctx, cov_lane, st_ctx, st_lane, st_out, st_hi, st_lo, hf0, hf1, hf2, hfs0, hfs1, hfs2, hfs3]
    try rfl
  isplitl [HS2]
  · iexists _; isplitr; swap; · iexact HS2
    ipureintro; exact hfs2
  · iexists _; isplitr; swap; · iexact HS3
    ipureintro; exact hfs3

set_option maxHeartbeats 1000000 in
/-- The body's run at a step that is: writing, without statistics, first of its row group. -/
theorem run_OsF (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : doesOut i) (hS : ¬doesStats i) (hF : isFirst i) :
    Runs c i x0 x1 x2 x3 xs0 xs1 xs2 xs3
      (k0_pay7 (wcols i x2) (mkCo x1 xs2))
      xs0
      xs1
      xs2
      (mkCo x1 xs2) := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS | sl_exact hF)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    repeat (first | delta run_OsF.sl.r | delta run_OsF.sl.r_1 | delta run_OsF.sl.r_2 | delta run_OsF.sl.r_3 | delta run_OsF.sl.r_4 | delta run_OsF.sl.r_5 | delta run_OsF.sl.r_6 | delta run_OsF.sl.r_7 | delta run_OsF.sl.r_8 | delta run_OsF.sl.r_9 | delta run_OsF.sl.r_10 | delta run_OsF.sl.r_11 | delta run_OsF.sl.r_12 | delta run_OsF.sl.H3_1 | delta run_OsF.sl.HS0_1 | delta run_OsF.sl.HS0_2 | delta run_OsF.sl.HS0_3 | delta run_OsF.sl.HS1_1 | delta run_OsF.sl.HS1_2 | delta run_OsF.sl.HS1_3 | delta run_OsF.sl.HS2_1 | delta run_OsF.sl.HS2_2 | delta run_OsF.sl.HS2_3 | delta run_OsF.sl.HS3_1 | delta run_OsF.sl.HS3_2 | delta run_OsF.sl.HS3_3 | delta run_OsF.sl.v2 | delta run_OsF.sl.v10 | delta run_OsF.sl.v13 | delta run_OsF.sl.v16 | delta run_OsF.sl.v21 | delta run_OsF.sl.v95 | delta run_OsF.sl.v97 | delta run_OsF.sl.v270 | delta run_OsF.sl.v271)
    simp only [ld_ctx, ld_lane, ld_col, ld_wcols, cov_ctx, cov_lane, st_ctx, st_lane, st_out, st_hi, st_lo, hf0, hf1, hf2, hfs0, hfs1, hfs2, hfs3]
    try rfl
  isplitl [HS0]
  · iexists _; isplitr; swap; · iexact HS0
    ipureintro; exact hfs0
  isplitl [HS1]
  · iexists _; isplitr; swap; · iexact HS1
    ipureintro; exact hfs1
  isplitl [HS2]
  · iexists _; isplitr; swap; · iexact HS2
    ipureintro; exact hfs2
  · iexists _; isplitr; swap; · iexact HS3
    ipureintro
    repeat (first | delta run_OsF.sl.r | delta run_OsF.sl.r_1 | delta run_OsF.sl.r_2 | delta run_OsF.sl.r_3 | delta run_OsF.sl.r_4 | delta run_OsF.sl.r_5 | delta run_OsF.sl.r_6 | delta run_OsF.sl.r_7 | delta run_OsF.sl.r_8 | delta run_OsF.sl.r_9 | delta run_OsF.sl.r_10 | delta run_OsF.sl.r_11 | delta run_OsF.sl.r_12 | delta run_OsF.sl.H3_1 | delta run_OsF.sl.HS0_1 | delta run_OsF.sl.HS0_2 | delta run_OsF.sl.HS0_3 | delta run_OsF.sl.HS1_1 | delta run_OsF.sl.HS1_2 | delta run_OsF.sl.HS1_3 | delta run_OsF.sl.HS2_1 | delta run_OsF.sl.HS2_2 | delta run_OsF.sl.HS2_3 | delta run_OsF.sl.HS3_1 | delta run_OsF.sl.HS3_2 | delta run_OsF.sl.HS3_3 | delta run_OsF.sl.v2 | delta run_OsF.sl.v10 | delta run_OsF.sl.v13 | delta run_OsF.sl.v16 | delta run_OsF.sl.v21 | delta run_OsF.sl.v95 | delta run_OsF.sl.v97 | delta run_OsF.sl.v270 | delta run_OsF.sl.v271)
    simp only [ld_ctx, ld_lane, ld_col, ld_wcols, cov_ctx, cov_lane, st_ctx, st_lane, st_out, st_hi, st_lo, hf0, hf1, hf2, hfs0, hfs1, hfs2, hfs3]
    try rfl

set_option maxHeartbeats 1000000 in
/-- The body's run at a step that is: writing, without statistics, not the first of its row group. -/
theorem run_Osf (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : doesOut i) (hS : ¬doesStats i) (hF : ¬isFirst i) :
    Runs c i x0 x1 x2 x3 xs0 xs1 xs2 xs3
      (k0_pay7 (wcols i x2) xs3)
      xs0
      xs1
      xs2
      xs3 := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS | sl_exact hF)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    repeat (first | delta run_Osf.sl.r | delta run_Osf.sl.r_1 | delta run_Osf.sl.r_2 | delta run_Osf.sl.r_3 | delta run_Osf.sl.r_4 | delta run_Osf.sl.r_5 | delta run_Osf.sl.r_6 | delta run_Osf.sl.r_7 | delta run_Osf.sl.r_8 | delta run_Osf.sl.r_9 | delta run_Osf.sl.r_10 | delta run_Osf.sl.r_11 | delta run_Osf.sl.r_12 | delta run_Osf.sl.H3_1 | delta run_Osf.sl.HS0_1 | delta run_Osf.sl.HS0_2 | delta run_Osf.sl.HS0_3 | delta run_Osf.sl.HS1_1 | delta run_Osf.sl.HS1_2 | delta run_Osf.sl.HS1_3 | delta run_Osf.sl.HS2_1 | delta run_Osf.sl.HS2_2 | delta run_Osf.sl.HS2_3 | delta run_Osf.sl.HS3_1 | delta run_Osf.sl.HS3_2 | delta run_Osf.sl.HS3_3 | delta run_Osf.sl.v2 | delta run_Osf.sl.v10 | delta run_Osf.sl.v13 | delta run_Osf.sl.v16 | delta run_Osf.sl.v21 | delta run_Osf.sl.v95 | delta run_Osf.sl.v97 | delta run_Osf.sl.v270 | delta run_Osf.sl.v271)
    simp only [ld_ctx, ld_lane, ld_col, ld_wcols, cov_ctx, cov_lane, st_ctx, st_lane, st_out, st_hi, st_lo, hf0, hf1, hf2, hfs0, hfs1, hfs2, hfs3]
    try rfl
  isplitl [HS0]
  · iexists _; isplitr; swap; · iexact HS0
    ipureintro; exact hfs0
  isplitl [HS1]
  · iexists _; isplitr; swap; · iexact HS1
    ipureintro; exact hfs1
  isplitl [HS2]
  · iexists _; isplitr; swap; · iexact HS2
    ipureintro; exact hfs2
  · iexists _; isplitr; swap; · iexact HS3
    ipureintro; exact hfs3

end Cert.KernelIdeal.Body

end
-- ==== Proof.KernelIdeal.RunsStats.lean ====
/- The body's runs at the steps that write no output block. -/
module

public import proofs.«01_k».proof.Proof.KernelIdeal.BodyDefs

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The body's run at a step that is: not writing, with statistics, first of its row group, last of its row group. -/
theorem run_oSFL (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : ¬doesOut i) (hS : doesStats i) (hF : isFirst i) (hL : isLast i) :
    Runs c i x0 x1 x2 x3 xs0 xs1 xs2 xs3
      x3
      (k0_pay9 (newM x0 (wcols i x2) k0_pay12))
      (newS x0 (wcols i x2) k0_pay12 k0_pay13)
      (k0_pay10 (k0_pay9 (newM x0 (wcols i x2) k0_pay12)) (newS x0 (wcols i x2) k0_pay12 k0_pay13))
      xs3 := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS | sl_exact hF | sl_exact hL)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro
    repeat (first | delta run_oSFL.sl.r | delta run_oSFL.sl.r_1 | delta run_oSFL.sl.r_2 | delta run_oSFL.sl.r_3 | delta run_oSFL.sl.r_4 | delta run_oSFL.sl.r_5 | delta run_oSFL.sl.r_6 | delta run_oSFL.sl.r_7 | delta run_oSFL.sl.r_8 | delta run_oSFL.sl.r_9 | delta run_oSFL.sl.r_10 | delta run_oSFL.sl.r_11 | delta run_oSFL.sl.r_12 | delta run_oSFL.sl.H3_1 | delta run_oSFL.sl.HS0_1 | delta run_oSFL.sl.HS0_2 | delta run_oSFL.sl.HS0_3 | delta run_oSFL.sl.HS1_1 | delta run_oSFL.sl.HS1_2 | delta run_oSFL.sl.HS1_3 | delta run_oSFL.sl.HS2_1 | delta run_oSFL.sl.HS2_2 | delta run_oSFL.sl.HS2_3 | delta run_oSFL.sl.HS3_1 | delta run_oSFL.sl.HS3_2 | delta run_oSFL.sl.HS3_3 | delta run_oSFL.sl.v2 | delta run_oSFL.sl.v10 | delta run_oSFL.sl.v13 | delta run_oSFL.sl.v16 | delta run_oSFL.sl.v21 | delta run_oSFL.sl.v95 | delta run_oSFL.sl.v97 | delta run_oSFL.sl.v270 | delta run_oSFL.sl.v271)
    simp only [ld_ctx, ld_lane, ld_col, ld_wcols, cov_ctx, cov_lane, st_ctx, st_lane, st_out, st_hi, st_lo, hf0, hf1, hf2, hfs0, hfs1, hfs2, hfs3]
    try rfl
  isplitl [HS1]
  · iexists _; isplitr; swap; · iexact HS1
    ipureintro
    repeat (first | delta run_oSFL.sl.r | delta run_oSFL.sl.r_1 | delta run_oSFL.sl.r_2 | delta run_oSFL.sl.r_3 | delta run_oSFL.sl.r_4 | delta run_oSFL.sl.r_5 | delta run_oSFL.sl.r_6 | delta run_oSFL.sl.r_7 | delta run_oSFL.sl.r_8 | delta run_oSFL.sl.r_9 | delta run_oSFL.sl.r_10 | delta run_oSFL.sl.r_11 | delta run_oSFL.sl.r_12 | delta run_oSFL.sl.H3_1 | delta run_oSFL.sl.HS0_1 | delta run_oSFL.sl.HS0_2 | delta run_oSFL.sl.HS0_3 | delta run_oSFL.sl.HS1_1 | delta run_oSFL.sl.HS1_2 | delta run_oSFL.sl.HS1_3 | delta run_oSFL.sl.HS2_1 | delta run_oSFL.sl.HS2_2 | delta run_oSFL.sl.HS2_3 | delta run_oSFL.sl.HS3_1 | delta run_oSFL.sl.HS3_2 | delta run_oSFL.sl.HS3_3 | delta run_oSFL.sl.v2 | delta run_oSFL.sl.v10 | delta run_oSFL.sl.v13 | delta run_oSFL.sl.v16 | delta run_oSFL.sl.v21 | delta run_oSFL.sl.v95 | delta run_oSFL.sl.v97 | delta run_oSFL.sl.v270 | delta run_oSFL.sl.v271)
    simp only [ld_ctx, ld_lane, ld_col, ld_wcols, cov_ctx, cov_lane, st_ctx, st_lane, st_out, st_hi, st_lo, hf0, hf1, hf2, hfs0, hfs1, hfs2, hfs3]
    try rfl
  isplitl [HS2]
  · iexists _; isplitr; swap; · iexact HS2
    ipureintro
    repeat (first | delta run_oSFL.sl.r | delta run_oSFL.sl.r_1 | delta run_oSFL.sl.r_2 | delta run_oSFL.sl.r_3 | delta run_oSFL.sl.r_4 | delta run_oSFL.sl.r_5 | delta run_oSFL.sl.r_6 | delta run_oSFL.sl.r_7 | delta run_oSFL.sl.r_8 | delta run_oSFL.sl.r_9 | delta run_oSFL.sl.r_10 | delta run_oSFL.sl.r_11 | delta run_oSFL.sl.r_12 | delta run_oSFL.sl.H3_1 | delta run_oSFL.sl.HS0_1 | delta run_oSFL.sl.HS0_2 | delta run_oSFL.sl.HS0_3 | delta run_oSFL.sl.HS1_1 | delta run_oSFL.sl.HS1_2 | delta run_oSFL.sl.HS1_3 | delta run_oSFL.sl.HS2_1 | delta run_oSFL.sl.HS2_2 | delta run_oSFL.sl.HS2_3 | delta run_oSFL.sl.HS3_1 | delta run_oSFL.sl.HS3_2 | delta run_oSFL.sl.HS3_3 | delta run_oSFL.sl.v2 | delta run_oSFL.sl.v10 | delta run_oSFL.sl.v13 | delta run_oSFL.sl.v16 | delta run_oSFL.sl.v21 | delta run_oSFL.sl.v95 | delta run_oSFL.sl.v97 | delta run_oSFL.sl.v270 | delta run_oSFL.sl.v271)
    simp only [ld_ctx, ld_lane, ld_col, ld_wcols, cov_ctx, cov_lane, st_ctx, st_lane, st_out, st_hi, st_lo, hf0, hf1, hf2, hfs0, hfs1, hfs2, hfs3]
    try rfl
  · iexists _; isplitr; swap; · iexact HS3
    ipureintro; exact hfs3

set_option maxHeartbeats 1000000 in
/-- The body's run at a step that is: not writing, with statistics, first of its row group, not the last of its row group. -/
theorem run_oSFl (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : ¬doesOut i) (hS : doesStats i) (hF : isFirst i) (hL : ¬isLast i) :
    Runs c i x0 x1 x2 x3 xs0 xs1 xs2 xs3
      x3
      (k0_pay9 (newM x0 (wcols i x2) k0_pay12))
      (newS x0 (wcols i x2) k0_pay12 k0_pay13)
      xs2
      xs3 := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS | sl_exact hF | sl_exact hL)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro
    repeat (first | delta run_oSFl.sl.r | delta run_oSFl.sl.r_1 | delta run_oSFl.sl.r_2 | delta run_oSFl.sl.r_3 | delta run_oSFl.sl.r_4 | delta run_oSFl.sl.r_5 | delta run_oSFl.sl.r_6 | delta run_oSFl.sl.r_7 | delta run_oSFl.sl.r_8 | delta run_oSFl.sl.r_9 | delta run_oSFl.sl.r_10 | delta run_oSFl.sl.r_11 | delta run_oSFl.sl.r_12 | delta run_oSFl.sl.H3_1 | delta run_oSFl.sl.HS0_1 | delta run_oSFl.sl.HS0_2 | delta run_oSFl.sl.HS0_3 | delta run_oSFl.sl.HS1_1 | delta run_oSFl.sl.HS1_2 | delta run_oSFl.sl.HS1_3 | delta run_oSFl.sl.HS2_1 | delta run_oSFl.sl.HS2_2 | delta run_oSFl.sl.HS2_3 | delta run_oSFl.sl.HS3_1 | delta run_oSFl.sl.HS3_2 | delta run_oSFl.sl.HS3_3 | delta run_oSFl.sl.v2 | delta run_oSFl.sl.v10 | delta run_oSFl.sl.v13 | delta run_oSFl.sl.v16 | delta run_oSFl.sl.v21 | delta run_oSFl.sl.v95 | delta run_oSFl.sl.v97 | delta run_oSFl.sl.v270 | delta run_oSFl.sl.v271)
    simp only [ld_ctx, ld_lane, ld_col, ld_wcols, cov_ctx, cov_lane, st_ctx, st_lane, st_out, st_hi, st_lo, hf0, hf1, hf2, hfs0, hfs1, hfs2, hfs3]
    try rfl
  isplitl [HS1]
  · iexists _; isplitr; swap; · iexact HS1
    ipureintro
    repeat (first | delta run_oSFl.sl.r | delta run_oSFl.sl.r_1 | delta run_oSFl.sl.r_2 | delta run_oSFl.sl.r_3 | delta run_oSFl.sl.r_4 | delta run_oSFl.sl.r_5 | delta run_oSFl.sl.r_6 | delta run_oSFl.sl.r_7 | delta run_oSFl.sl.r_8 | delta run_oSFl.sl.r_9 | delta run_oSFl.sl.r_10 | delta run_oSFl.sl.r_11 | delta run_oSFl.sl.r_12 | delta run_oSFl.sl.H3_1 | delta run_oSFl.sl.HS0_1 | delta run_oSFl.sl.HS0_2 | delta run_oSFl.sl.HS0_3 | delta run_oSFl.sl.HS1_1 | delta run_oSFl.sl.HS1_2 | delta run_oSFl.sl.HS1_3 | delta run_oSFl.sl.HS2_1 | delta run_oSFl.sl.HS2_2 | delta run_oSFl.sl.HS2_3 | delta run_oSFl.sl.HS3_1 | delta run_oSFl.sl.HS3_2 | delta run_oSFl.sl.HS3_3 | delta run_oSFl.sl.v2 | delta run_oSFl.sl.v10 | delta run_oSFl.sl.v13 | delta run_oSFl.sl.v16 | delta run_oSFl.sl.v21 | delta run_oSFl.sl.v95 | delta run_oSFl.sl.v97 | delta run_oSFl.sl.v270 | delta run_oSFl.sl.v271)
    simp only [ld_ctx, ld_lane, ld_col, ld_wcols, cov_ctx, cov_lane, st_ctx, st_lane, st_out, st_hi, st_lo, hf0, hf1, hf2, hfs0, hfs1, hfs2, hfs3]
    try rfl
  isplitl [HS2]
  · iexists _; isplitr; swap; · iexact HS2
    ipureintro; exact hfs2
  · iexists _; isplitr; swap; · iexact HS3
    ipureintro; exact hfs3

set_option maxHeartbeats 1000000 in
/-- The body's run at a step that is: not writing, with statistics, not the first of its row group, last of its row group. -/
theorem run_oSfL (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : ¬doesOut i) (hS : doesStats i) (hF : ¬isFirst i) (hL : isLast i) :
    Runs c i x0 x1 x2 x3 xs0 xs1 xs2 xs3
      x3
      (k0_pay9 (newM x0 (wcols i x2) xs0))
      (newS x0 (wcols i x2) xs0 xs1)
      (k0_pay10 (k0_pay9 (newM x0 (wcols i x2) xs0)) (newS x0 (wcols i x2) xs0 xs1))
      xs3 := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS | sl_exact hF | sl_exact hL)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro
    repeat (first | delta run_oSfL.sl.r | delta run_oSfL.sl.r_1 | delta run_oSfL.sl.r_2 | delta run_oSfL.sl.r_3 | delta run_oSfL.sl.r_4 | delta run_oSfL.sl.r_5 | delta run_oSfL.sl.r_6 | delta run_oSfL.sl.r_7 | delta run_oSfL.sl.r_8 | delta run_oSfL.sl.r_9 | delta run_oSfL.sl.r_10 | delta run_oSfL.sl.r_11 | delta run_oSfL.sl.r_12 | delta run_oSfL.sl.H3_1 | delta run_oSfL.sl.HS0_1 | delta run_oSfL.sl.HS0_2 | delta run_oSfL.sl.HS0_3 | delta run_oSfL.sl.HS1_1 | delta run_oSfL.sl.HS1_2 | delta run_oSfL.sl.HS1_3 | delta run_oSfL.sl.HS2_1 | delta run_oSfL.sl.HS2_2 | delta run_oSfL.sl.HS2_3 | delta run_oSfL.sl.HS3_1 | delta run_oSfL.sl.HS3_2 | delta run_oSfL.sl.HS3_3 | delta run_oSfL.sl.v2 | delta run_oSfL.sl.v10 | delta run_oSfL.sl.v13 | delta run_oSfL.sl.v16 | delta run_oSfL.sl.v21 | delta run_oSfL.sl.v95 | delta run_oSfL.sl.v97 | delta run_oSfL.sl.v270 | delta run_oSfL.sl.v271)
    simp only [ld_ctx, ld_lane, ld_col, ld_wcols, cov_ctx, cov_lane, st_ctx, st_lane, st_out, st_hi, st_lo, hf0, hf1, hf2, hfs0, hfs1, hfs2, hfs3]
    try rfl
  isplitl [HS1]
  · iexists _; isplitr; swap; · iexact HS1
    ipureintro
    repeat (first | delta run_oSfL.sl.r | delta run_oSfL.sl.r_1 | delta run_oSfL.sl.r_2 | delta run_oSfL.sl.r_3 | delta run_oSfL.sl.r_4 | delta run_oSfL.sl.r_5 | delta run_oSfL.sl.r_6 | delta run_oSfL.sl.r_7 | delta run_oSfL.sl.r_8 | delta run_oSfL.sl.r_9 | delta run_oSfL.sl.r_10 | delta run_oSfL.sl.r_11 | delta run_oSfL.sl.r_12 | delta run_oSfL.sl.H3_1 | delta run_oSfL.sl.HS0_1 | delta run_oSfL.sl.HS0_2 | delta run_oSfL.sl.HS0_3 | delta run_oSfL.sl.HS1_1 | delta run_oSfL.sl.HS1_2 | delta run_oSfL.sl.HS1_3 | delta run_oSfL.sl.HS2_1 | delta run_oSfL.sl.HS2_2 | delta run_oSfL.sl.HS2_3 | delta run_oSfL.sl.HS3_1 | delta run_oSfL.sl.HS3_2 | delta run_oSfL.sl.HS3_3 | delta run_oSfL.sl.v2 | delta run_oSfL.sl.v10 | delta run_oSfL.sl.v13 | delta run_oSfL.sl.v16 | delta run_oSfL.sl.v21 | delta run_oSfL.sl.v95 | delta run_oSfL.sl.v97 | delta run_oSfL.sl.v270 | delta run_oSfL.sl.v271)
    simp only [ld_ctx, ld_lane, ld_col, ld_wcols, cov_ctx, cov_lane, st_ctx, st_lane, st_out, st_hi, st_lo, hf0, hf1, hf2, hfs0, hfs1, hfs2, hfs3]
    try rfl
  isplitl [HS2]
  · iexists _; isplitr; swap; · iexact HS2
    ipureintro
    repeat (first | delta run_oSfL.sl.r | delta run_oSfL.sl.r_1 | delta run_oSfL.sl.r_2 | delta run_oSfL.sl.r_3 | delta run_oSfL.sl.r_4 | delta run_oSfL.sl.r_5 | delta run_oSfL.sl.r_6 | delta run_oSfL.sl.r_7 | delta run_oSfL.sl.r_8 | delta run_oSfL.sl.r_9 | delta run_oSfL.sl.r_10 | delta run_oSfL.sl.r_11 | delta run_oSfL.sl.r_12 | delta run_oSfL.sl.H3_1 | delta run_oSfL.sl.HS0_1 | delta run_oSfL.sl.HS0_2 | delta run_oSfL.sl.HS0_3 | delta run_oSfL.sl.HS1_1 | delta run_oSfL.sl.HS1_2 | delta run_oSfL.sl.HS1_3 | delta run_oSfL.sl.HS2_1 | delta run_oSfL.sl.HS2_2 | delta run_oSfL.sl.HS2_3 | delta run_oSfL.sl.HS3_1 | delta run_oSfL.sl.HS3_2 | delta run_oSfL.sl.HS3_3 | delta run_oSfL.sl.v2 | delta run_oSfL.sl.v10 | delta run_oSfL.sl.v13 | delta run_oSfL.sl.v16 | delta run_oSfL.sl.v21 | delta run_oSfL.sl.v95 | delta run_oSfL.sl.v97 | delta run_oSfL.sl.v270 | delta run_oSfL.sl.v271)
    simp only [ld_ctx, ld_lane, ld_col, ld_wcols, cov_ctx, cov_lane, st_ctx, st_lane, st_out, st_hi, st_lo, hf0, hf1, hf2, hfs0, hfs1, hfs2, hfs3]
    try rfl
  · iexists _; isplitr; swap; · iexact HS3
    ipureintro; exact hfs3

set_option maxHeartbeats 1000000 in
/-- The body's run at a step that is: not writing, with statistics, not the first of its row group, not the last of its row group. -/
theorem run_oSfl (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : ¬doesOut i) (hS : doesStats i) (hF : ¬isFirst i) (hL : ¬isLast i) :
    Runs c i x0 x1 x2 x3 xs0 xs1 xs2 xs3
      x3
      (k0_pay9 (newM x0 (wcols i x2) xs0))
      (newS x0 (wcols i x2) xs0 xs1)
      xs2
      xs3 := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS | sl_exact hF | sl_exact hL)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro
    repeat (first | delta run_oSfl.sl.r | delta run_oSfl.sl.r_1 | delta run_oSfl.sl.r_2 | delta run_oSfl.sl.r_3 | delta run_oSfl.sl.r_4 | delta run_oSfl.sl.r_5 | delta run_oSfl.sl.r_6 | delta run_oSfl.sl.r_7 | delta run_oSfl.sl.r_8 | delta run_oSfl.sl.r_9 | delta run_oSfl.sl.r_10 | delta run_oSfl.sl.r_11 | delta run_oSfl.sl.r_12 | delta run_oSfl.sl.H3_1 | delta run_oSfl.sl.HS0_1 | delta run_oSfl.sl.HS0_2 | delta run_oSfl.sl.HS0_3 | delta run_oSfl.sl.HS1_1 | delta run_oSfl.sl.HS1_2 | delta run_oSfl.sl.HS1_3 | delta run_oSfl.sl.HS2_1 | delta run_oSfl.sl.HS2_2 | delta run_oSfl.sl.HS2_3 | delta run_oSfl.sl.HS3_1 | delta run_oSfl.sl.HS3_2 | delta run_oSfl.sl.HS3_3 | delta run_oSfl.sl.v2 | delta run_oSfl.sl.v10 | delta run_oSfl.sl.v13 | delta run_oSfl.sl.v16 | delta run_oSfl.sl.v21 | delta run_oSfl.sl.v95 | delta run_oSfl.sl.v97 | delta run_oSfl.sl.v270 | delta run_oSfl.sl.v271)
    simp only [ld_ctx, ld_lane, ld_col, ld_wcols, cov_ctx, cov_lane, st_ctx, st_lane, st_out, st_hi, st_lo, hf0, hf1, hf2, hfs0, hfs1, hfs2, hfs3]
    try rfl
  isplitl [HS1]
  · iexists _; isplitr; swap; · iexact HS1
    ipureintro
    repeat (first | delta run_oSfl.sl.r | delta run_oSfl.sl.r_1 | delta run_oSfl.sl.r_2 | delta run_oSfl.sl.r_3 | delta run_oSfl.sl.r_4 | delta run_oSfl.sl.r_5 | delta run_oSfl.sl.r_6 | delta run_oSfl.sl.r_7 | delta run_oSfl.sl.r_8 | delta run_oSfl.sl.r_9 | delta run_oSfl.sl.r_10 | delta run_oSfl.sl.r_11 | delta run_oSfl.sl.r_12 | delta run_oSfl.sl.H3_1 | delta run_oSfl.sl.HS0_1 | delta run_oSfl.sl.HS0_2 | delta run_oSfl.sl.HS0_3 | delta run_oSfl.sl.HS1_1 | delta run_oSfl.sl.HS1_2 | delta run_oSfl.sl.HS1_3 | delta run_oSfl.sl.HS2_1 | delta run_oSfl.sl.HS2_2 | delta run_oSfl.sl.HS2_3 | delta run_oSfl.sl.HS3_1 | delta run_oSfl.sl.HS3_2 | delta run_oSfl.sl.HS3_3 | delta run_oSfl.sl.v2 | delta run_oSfl.sl.v10 | delta run_oSfl.sl.v13 | delta run_oSfl.sl.v16 | delta run_oSfl.sl.v21 | delta run_oSfl.sl.v95 | delta run_oSfl.sl.v97 | delta run_oSfl.sl.v270 | delta run_oSfl.sl.v271)
    simp only [ld_ctx, ld_lane, ld_col, ld_wcols, cov_ctx, cov_lane, st_ctx, st_lane, st_out, st_hi, st_lo, hf0, hf1, hf2, hfs0, hfs1, hfs2, hfs3]
    try rfl
  isplitl [HS2]
  · iexists _; isplitr; swap; · iexact HS2
    ipureintro; exact hfs2
  · iexists _; isplitr; swap; · iexact HS3
    ipureintro; exact hfs3

set_option maxHeartbeats 1000000 in
/-- The body's run at a step that is: not writing, without statistics. -/
theorem run_os (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16)
    (hO : ¬doesOut i) (hS : ¬doesStats i) :
    Runs c i x0 x1 x2 x3 xs0 xs1 xs2 xs3
      x3
      xs0
      xs1
      xs2
      xs3 := by
  intro arg2 harg2 arg3 harg3 arg4 harg4 arg5 harg5 arg6 harg6 arg7 harg7 arg8 harg8 arg9 harg9 E K
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  sl_exec (disch := first | sl_exact hO | sl_exact hS)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro; exact hfs0
  isplitl [HS1]
  · iexists _; isplitr; swap; · iexact HS1
    ipureintro; exact hfs1
  isplitl [HS2]
  · iexists _; isplitr; swap; · iexact HS2
    ipureintro; exact hfs2
  · iexists _; isplitr; swap; · iexact HS3
    ipureintro; exact hfs3

end Cert.KernelIdeal.Body

end
-- ==== Proof.KernelIdeal.RunAll.lean ====
/- The body's run at any step. -/
module

public import proofs.«01_k».proof.Proof.KernelIdeal.RunsOut
public import proofs.«01_k».proof.Proof.KernelIdeal.RunsStats

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's run at any step. -/
theorem run_all (c : Dev nD) (i : grid0.Coords) (x0 x1 : Vec F S256x136 .bf16) (x2 : Vec F S136x102400 .bf16) (x3 : Vec F S256x5120 .f32)
    (xs0 xs1 xs2 : Vec F S256x128 .f32) (xs3 : Vec F S256x136 .bf16) :
    Runs c i x0 x1 x2 x3 xs0 xs1 xs2 xs3 (nextOut i x1 x2 x3 xs2 xs3) (nextM i x0 x2 xs0) (nextS i x0 x2 xs0 xs1) (nextL i x0 x2 xs0 xs1 xs2) (nextCo i x1 xs2 xs3) := by
  unfold nextOut nextL nextM nextS nextCo startM startS
  by_cases hO : doesOut i
  · by_cases hS : doesStats i
    · by_cases hF : isFirst i
      · by_cases hL : isLast i
        · simp only [if_pos hO, if_pos hS, if_pos hF, if_pos hL]
          exact run_OSFL c i x0 x1 x2 x3 xs0 xs1 xs2 xs3 hO hS hF hL
        · simp only [if_pos hO, if_pos hS, if_pos hF, if_neg hL]
          exact run_OSFl c i x0 x1 x2 x3 xs0 xs1 xs2 xs3 hO hS hF hL
      · by_cases hL : isLast i
        · simp only [if_pos hO, if_pos hS, if_neg hF, if_pos hL]
          exact run_OSfL c i x0 x1 x2 x3 xs0 xs1 xs2 xs3 hO hS hF hL
        · simp only [if_pos hO, if_pos hS, if_neg hF, if_neg hL]
          exact run_OSfl c i x0 x1 x2 x3 xs0 xs1 xs2 xs3 hO hS hF hL
    · by_cases hF : isFirst i
      · simp only [if_pos hO, if_neg hS, if_pos hF]
        exact run_OsF c i x0 x1 x2 x3 xs0 xs1 xs2 xs3 hO hS hF
      · simp only [if_pos hO, if_neg hS, if_neg hF]
        exact run_Osf c i x0 x1 x2 x3 xs0 xs1 xs2 xs3 hO hS hF
  · by_cases hS : doesStats i
    · by_cases hF : isFirst i
      · by_cases hL : isLast i
        · simp only [if_neg hO, if_pos hS, if_pos hF, if_pos hL]
          exact run_oSFL c i x0 x1 x2 x3 xs0 xs1 xs2 xs3 hO hS hF hL
        · simp only [if_neg hO, if_pos hS, if_pos hF, if_neg hL]
          exact run_oSFl c i x0 x1 x2 x3 xs0 xs1 xs2 xs3 hO hS hF hL
      · by_cases hL : isLast i
        · simp only [if_neg hO, if_pos hS, if_neg hF, if_pos hL]
          exact run_oSfL c i x0 x1 x2 x3 xs0 xs1 xs2 xs3 hO hS hF hL
        · simp only [if_neg hO, if_pos hS, if_neg hF, if_neg hL]
          exact run_oSfl c i x0 x1 x2 x3 xs0 xs1 xs2 xs3 hO hS hF hL
    · simp only [if_neg hO, if_neg hS]
      exact run_os c i x0 x1 x2 x3 xs0 xs1 xs2 xs3 hO hS

end Cert.KernelIdeal.Body

end
-- ==== Proof.KernelIdeal.Launch.lean ====
/- The state the kernel carries from grid point to grid point, the body obligation at any point, and the launch. -/
module

public import proofs.«01_k».proof.Proof.KernelIdeal.RunAll

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The step conditions, point by point -/

theorem doesOut_iff : ∀ t : Fin cfg0.N, doesOut (grid0.coords t) ↔ 20 ≤ t.val :=
  (by decide +kernel : ∀ t : Fin grid0.N, doesOut (grid0.coords t) ↔ 20 ≤ t.val)
theorem doesStats_iff : ∀ t : Fin cfg0.N, doesStats (grid0.coords t) ↔ t.val < 80 :=
  (by decide +kernel : ∀ t : Fin grid0.N, doesStats (grid0.coords t) ↔ t.val < 80)
theorem isFirst_iff : ∀ t : Fin cfg0.N, isFirst (grid0.coords t) ↔ t.val % 20 = 0 :=
  (by decide +kernel : ∀ t : Fin grid0.N, isFirst (grid0.coords t) ↔ t.val % 20 = 0)
theorem isLast_iff : ∀ t : Fin cfg0.N, isLast (grid0.coords t) ↔ t.val % 20 = 19 :=
  (by decide +kernel : ∀ t : Fin grid0.N, isLast (grid0.coords t) ↔ t.val % 20 = 19)

/-- The output window is live exactly at the writing steps. -/
theorem idle3_of_lt : ∀ t : Fin cfg0.N, t.val < 20 → cfg0.idle 3 (grid0.coords t) = true :=
  (by decide +kernel : ∀ t : Fin grid0.N, t.val < 20 → idle0 3 (grid0.coords t) = true)
theorem live3_of_le : ∀ t : Fin cfg0.N, 20 ≤ t.val → cfg0.idle 3 (grid0.coords t) = false :=
  (by decide +kernel : ∀ t : Fin grid0.N, 20 ≤ t.val → idle0 3 (grid0.coords t) = false)
/-- No block is written back before the first writing step. -/
theorem noFlush3_of_lt : ∀ t : Fin cfg0.N, t.val < 20 → (cfg0.win 3).flush t = false :=
  (by decide +kernel : ∀ t : Fin grid0.N, t.val < 20 → win0_3.flush t = false)
/-- Every writing step's block is written back. -/
theorem flush3_of_le : ∀ t : Fin cfg0.N, 20 ≤ t.val → (cfg0.win 3).flush t = true :=
  (by decide +kernel : ∀ t : Fin grid0.N, 20 ≤ t.val → win0_3.flush t = true)

/-! ## The carried state -/

/-- What the kernel carries between grid points. -/
structure State (F : FTy → Type) where
  /-- the running lane maxima -/
  M : Vec F S256x128 .f32
  /-- the running lane sums -/
  S : Vec F S256x128 .f32
  /-- the log-sum-exp buffer -/
  L : Vec F S256x128 .f32
  /-- the output operand -/
  C : Vec F S256x136 .bf16

/-- The context rows the statistics at point `t` are about. -/
abbrev ctxS (c : Dev nD) (t : Fin cfg0.N) : Vec F S256x136 .bf16 := iblk m c 0 t
/-- The context rows the output at point `t` is about. -/
abbrev ctxO (c : Dev nD) (t : Fin cfg0.N) : Vec F S256x136 .bf16 := iblk m c 1 t
/-- The augmented weights at point `t`. -/
abbrev wAll (c : Dev nD) (t : Fin cfg0.N) : Vec F S136x102400 .bf16 := iblk m c 2 t

/-- One grid point's effect on the carried state. -/
def step (c : Dev nD) (t : Fin cfg0.N) (s : State F) : State F where
  M := nextM (grid0.coords t) (ctxS m c t) (wAll m c t) s.M
  S := nextS (grid0.coords t) (ctxS m c t) (wAll m c t) s.M s.S
  L := nextL (grid0.coords t) (ctxS m c t) (wAll m c t) s.M s.S s.L
  C := nextCo (grid0.coords t) (ctxO m c t) s.L s.C

/-- The state before grid point `n`, from an arbitrary start. -/
def tr (c : Dev nD) : ℕ → State F
  | 0 => ⟨k0_pay12, k0_pay13, k0_pay12, fun _ => FloatOps.ofBits .bf16 0⟩
  | n + 1 => if h : n < cfg0.N then step m c ⟨n, h⟩ (tr c n) else tr c n

theorem tr_succ (c : Dev nD) (t : Fin cfg0.N) : tr m c (t.val + 1) = step m c t (tr m c t.val) := by
  show (if h : t.val < cfg0.N then _ else _) = _
  rw [dif_pos t.isLt]

/-- The state in memory before point `n` is the trajectory's, in the parts that have been written by then. -/
def Agree (c : Dev nD) (n : ℕ) (s : State F) : Prop :=
  (1 ≤ n → s.M = (tr m c n).M ∧ s.S = (tr m c n).S) ∧ (20 ≤ n → s.L = (tr m c n).L) ∧ (21 ≤ n → s.C = (tr m c n).C)

/-- A step keeps the agreement. -/
theorem agree_step (c : Dev nD) (t : Fin cfg0.N) (s : State F) (h : Agree m c t.val s) : Agree m c (t.val + 1) (step m c t s) := by
  have hF := isFirst_iff t
  have hL := isLast_iff t
  have hO := doesOut_iff t
  have hS := doesStats_iff t
  obtain ⟨h1, h2, h3⟩ := h
  have hM' : (step m c t s).M = (step m c t (tr m c t.val)).M := by
    show nextM _ _ _ _ = nextM _ _ _ _
    by_cases h0 : t.val = 0
    · unfold nextM startM
      rw [if_pos (hF.2 (by omega)), if_pos (hF.2 (by omega)), if_pos (hS.2 (by omega)), if_pos (hS.2 (by omega))]
    · rw [(h1 (by omega)).1]
  have hS' : (step m c t s).S = (step m c t (tr m c t.val)).S := by
    show nextS _ _ _ _ _ = nextS _ _ _ _ _
    by_cases h0 : t.val = 0
    · unfold nextS startM startS
      simp only [if_pos (hF.2 (show t.val % 20 = 0 by omega)), if_pos (hS.2 (show t.val < 80 by omega))]
    · rw [(h1 (by omega)).1, (h1 (by omega)).2]
  refine ⟨fun _ => ?_, fun hn => ?_, fun hn => ?_⟩
  · rw [tr_succ]; exact ⟨hM', hS'⟩
  · rw [tr_succ]
    show nextL _ _ _ _ _ _ = nextL _ _ _ _ _ _
    by_cases h0 : 20 ≤ t.val
    · rw [(h1 (by omega)).1, (h1 (by omega)).2, h2 h0]
    · unfold nextL
      rw [if_pos (hS.2 (by omega)), if_pos (hL.2 (by omega)), if_pos (hS.2 (by omega)), if_pos (hL.2 (by omega))]
      exact congrArg₂ k0_pay10 hM' hS'
  · rw [tr_succ]
    show nextCo _ _ _ _ = nextCo _ _ _ _
    rw [h2 (by omega)]
    by_cases h0 : 21 ≤ t.val
    · rw [h3 h0]
    · unfold nextCo
      rw [if_pos (hO.2 (by omega)), if_pos (hF.2 (by omega)), if_pos (hO.2 (by omega)), if_pos (hF.2 (by omega))]

/-- What a writing step leaves in the output block. -/
def outAt (c : Dev nD) (t : Fin cfg0.N) : Vec F S256x5120 .f32 :=
  k0_pay7 (wcols (grid0.coords t) (wAll m c t)) (tr m c (t.val + 1)).C

/-- At a writing step the body leaves `outAt`. -/
theorem nextOut_eq (c : Dev nD) (t : Fin cfg0.N) (s : State F) (h : Agree m c t.val s) (ht : 20 ≤ t.val) (x3 : Vec F S256x5120 .f32) :
    nextOut (grid0.coords t) (ctxO m c t) (wAll m c t) x3 s.L s.C = outAt m c t := by
  unfold nextOut outAt
  rw [if_pos ((doesOut_iff t).2 ht), ← (agree_step m c t s h).2.2 (by omega)]
  rfl

/-! ## The proof data -/

abbrev ms0_0 (t : Fin cfg0.N) : Memref sig .tc .vmem S256x136 .bf16 := win0_0.stage (cfg0.slots t 0)
abbrev ms0_1 (t : Fin cfg0.N) : Memref sig .tc .vmem S256x136 .bf16 := win0_1.stage (cfg0.slots t 1)
abbrev ms0_2 (t : Fin cfg0.N) : Memref sig .tc .vmem S136x102400 .bf16 := win0_2.stage (cfg0.slots t 2)
abbrev ms0_3 (t : Fin cfg0.N) : Memref sig .tc .vmem S256x5120 .f32 := win0_3.stage (cfg0.slots t 3)
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x136 .bf16 := Memref.whole cc0_scratch3

/-- What the launch hands the region, spelled out. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The invariant before grid point `n`. -/
def Inv (c : Dev nD) (n : ℕ) : sProp 𝕄 :=
  iprop(∃ s : State F, ⌜Agree m c n s⌝ ∗ owns (c : Thread nD τ) scM0_0 fullShare s.M ∗ owns (c : Thread nD τ) scM0_1 fullShare s.S
    ∗ owns (c : Thread nD τ) scM0_2 fullShare s.L ∗ owns (c : Thread nD τ) scM0_3 fullShare s.C ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [show (dats m 0 c).leavesExact 0 t = owns (c : Thread nD τ) (ms0_0 t) fullShare (iblk m c 0 t) from by
    unfold Dat.leavesExact; rw [show cfg0.idle 0 (grid0.coords t) = false from rfl, after0_0]]
  rw [show (dats m 0 c).leavesExact 1 t = owns (c : Thread nD τ) (ms0_1 t) fullShare (iblk m c 1 t) from by
    unfold Dat.leavesExact; rw [show cfg0.idle 1 (grid0.coords t) = false from rfl, after0_1]]
  rw [show (dats m 0 c).leavesExact 2 t = owns (c : Thread nD τ) (ms0_2 t) fullShare (iblk m c 2 t) from by
    unfold Dat.leavesExact; rw [show cfg0.idle 2 (grid0.coords t) = false from rfl, after0_2]]
  unfold Inv
  by_cases ht : 20 ≤ t.val
  · rw [show (dats m 0 c).leavesExact 3 t = owns (c : Thread nD τ) (ms0_3 t) fullShare (outAt m c t) from by
      unfold Dat.leavesExact; rw [live3_of_le t ht, after0_3]]
    iintro ⟨⟨%s, %hs, HS0, HS1, HS2, HS3, Hg⟩, Ho, ⟨%d0, H0⟩, ⟨%d1, H1⟩, ⟨%d2, H2⟩, ⟨%d3, H3⟩⟩
    iapply (run_all c (grid0.coords t) (iblk m c 0 t) (iblk m c 1 t) (iblk m c 2 t) _ s.M s.S s.L s.C) _ _ _ _ _ _ _ _ _ _ _ _ _ _ _ _ Set.univ _
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    rw [nextOut_eq m c t s hs ht]
    iintro ⟨H0, H1, H2, H3, HS0, HS1, HS2, HS3⟩
    isplitl [HS0 HS1 HS2 HS3 Hg]
    · iexists step m c t s
      isplitr
      · ipureintro; exact agree_step m c t s hs
      isplitl [HS0]; · iexact HS0
      isplitl [HS1]; · iexact HS1
      isplitl [HS2]; · iexact HS2
      isplitl [HS3]; · iexact HS3
      iexact Hg
    isplitl [Ho]; · iexact Ho
    isplitl [H0]; · iexact H0
    isplitl [H1]; · iexact H1
    isplitl [H2]; · iexact H2
    iexact H3
  · rw [Dat.leavesExact_idle (dats m 0 c) 3 t (idle3_of_lt t (by omega)) (noFlush3_of_lt t (by omega))]
    iintro ⟨⟨%s, %hs, HS0, HS1, HS2, HS3, Hg⟩, Ho, ⟨%d0, H0⟩, ⟨%d1, H1⟩, ⟨%d2, H2⟩, ⟨%d3, H3⟩⟩
    iapply (run_all c (grid0.coords t) (iblk m c 0 t) (iblk m c 1 t) (iblk m c 2 t) _ s.M s.S s.L s.C) _ _ _ _ _ _ _ _ _ _ _ _ _ _ _ _ Set.univ _
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    rw [show ∀ x3, nextOut (grid0.coords t) (iblk m c 1 t) (iblk m c 2 t) x3 s.L s.C = x3 from fun x3 => if_neg (fun h => ht ((doesOut_iff t).1 h))]
    iintro ⟨H0, H1, H2, H3, HS0, HS1, HS2, HS3⟩
    isplitl [HS0 HS1 HS2 HS3 Hg]
    · iexists step m c t s
      isplitr
      · ipureintro; exact agree_step m c t s hs
      isplitl [HS0]; · iexact HS0
      isplitl [HS1]; · iexact HS1
      isplitl [HS2]; · iexact HS2
      isplitl [HS3]; · iexact HS3
      iexact Hg
    isplitl [Ho]; · iexact Ho
    isplitl [H0]; · iexact H0
    isplitl [H1]; · iexact H1
    isplitl [H2]; · iexact H2
    iexists _; iexact H3

/-- The body table's row at point `t`'s slots is the body called there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Inv m c 0 from rfl, PhiA0_eq]
  unfold Inv
  iintro ⟨⟨⟨%d0, HS0⟩, ⟨%d1, HS1⟩, ⟨%d2, HS2⟩, ⟨%d3, HS3⟩⟩, Hg⟩
  iexists (⟨d0, d1, d2, d3⟩ : State F)
  isplitr
  · ipureintro; exact ⟨fun h => absurd h (by omega), fun h => absurd h (by omega), fun h => absurd h (by omega)⟩
  isplitl [HS0]; · iexact HS0
  isplitl [HS1]; · iexact HS1
  isplitl [HS2]; · iexact HS2
  isplitl [HS3]; · iexact HS3
  iexact Hg

/-- After the last point the invariant gives the region's buffers back. -/
theorem hout (c : Dev nD) : (dats m 0 c).Φ (Fin.last cfg0.N) ⊢ Pipeline.ΦA spec0 c := by
  rw [show (dats m 0 c).Φ (Fin.last cfg0.N) = Inv m c cfg0.N from rfl, PhiA0_eq]
  unfold Inv
  iintro ⟨%s, %hs, HS0, HS1, HS2, HS3, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The launch -/

-- the launch theorem's implicit arguments are found by unifying its conclusion with this one
set_option backward.isDefEq.respectTransparency.types false in
/-- The run: every window's array as the proof data says, everything else as the region found it, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run, with the result array named and the arguments unchanged. -/
theorem run_result : θ_run defs (onTc (τ := τ) (main (F := F))) ⟨m, fun _ => 0, ρ⟩ (fun r => (∀ c : Dev nD,
      r.2.mem ((c.tc : Thread nD τ).loc main_v12) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r hr => ⟨fun c =>
      ⟨(hr.1 c).1 3,
       ((hr.1 c).2 main_arg0 (Pipeline.mem_restRefs_of main_arg0 (by decide) (by decide))).trans (V_main_arg0 m c),
       ((hr.1 c).2 main_arg1 (Pipeline.mem_restRefs_of main_arg1 (by decide) (by decide))).trans (V_main_arg1 m c),
       ((hr.1 c).2 main_arg2 (Pipeline.mem_restRefs_of main_arg2 (by decide) (by decide))).trans (V_main_arg2 m c)⟩, hr.2⟩)
    (run_main m ρ)

/-- The frame claim: the run ends, the arguments unchanged, every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r hr => ⟨fun c => (hr.1 c).2, hr.2⟩) (run_result m ρ)

end Cert.KernelIdeal.Body

end
-- ==== Proof.RowMath.lean ====
module

public import Idealize.ShloMosaic.Lib.Pointwise

@[expose] public section

/-!
The mathematics of one row, over the extended reals: a running maximum `M` with a running sum
`∑ exp (f c - M)`, rescaled whenever the maximum grows, and the logarithm of the sum of exponentials
read off it at the end. Nothing here mentions the kernel.
-/

namespace Cert.RowMath

open Idealize.ShloMosaic

/-- An exponential is never negative. -/
theorem exp_nonneg (x : EReal) : 0 ≤ Ideal.exp x := by
  induction x with
  | bot => simp
  | top => simp
  | coe r => rw [Ideal.exp_coe]; exact_mod_cast (Real.exp_pos r).le

/-- Anything minus `⊤` is `⊥`. -/
theorem sub_top' (x : EReal) : x - ⊤ = ⊥ := by
  rw [sub_eq_add_neg, EReal.neg_top, EReal.add_bot]

/-- `⊥` minus anything is `⊥`. -/
theorem bot_sub' (x : EReal) : (⊥ : EReal) - x = ⊥ := by
  rw [sub_eq_add_neg, EReal.bot_add]

/-- Moving the reference point of an exponential from `M` up to `M'`. -/
theorem exp_shift {f M M' : EReal} (h : f ≤ M) (h' : M ≤ M') :
    Ideal.exp (f - M) * Ideal.exp (M - M') = Ideal.exp (f - M') := by
  induction M' with
  | top => rw [sub_top', sub_top']; simp
  | bot =>
    obtain rfl : M = ⊥ := le_bot_iff.1 h'
    obtain rfl : f = ⊥ := le_bot_iff.1 h
    rw [bot_sub']; simp
  | coe r' =>
    induction M with
    | top => exact absurd h' (by simp)
    | bot =>
      obtain rfl : f = ⊥ := le_bot_iff.1 h
      rw [bot_sub', bot_sub']; simp
    | coe r =>
      induction f with
      | top => exact absurd h (by simp)
      | bot => rw [bot_sub', bot_sub']; simp
      | coe s =>
        rw [← EReal.coe_sub, ← EReal.coe_sub, ← EReal.coe_sub, Ideal.exp_coe, Ideal.exp_coe,
          Ideal.exp_coe, ← EReal.coe_mul, ← Real.exp_add]
        congr 2
        ring

/-- A sum of terms that are not negative, times a constant. -/
theorem sum_mul_nonneg {ι : Type*} (s : Finset ι) (a : ι → EReal) (h : ∀ i ∈ s, 0 ≤ a i) (c : EReal) :
    (∑ i ∈ s, a i) * c = ∑ i ∈ s, a i * c := by
  classical
  induction s using Finset.induction_on with
  | empty => simp
  | insert i s hi ih =>
    rw [Finset.sum_insert hi, Finset.sum_insert hi,
      EReal.right_distrib_of_nonneg (h i (Finset.mem_insert_self i s))
        (Finset.sum_nonneg fun k hk => h k (Finset.mem_insert_of_mem hk)),
      ih fun k hk => h k (Finset.mem_insert_of_mem hk)]

/-- A sum of real numbers, read among the extended reals. -/
theorem coe_sum' {ι : Type*} (s : Finset ι) (x : ι → ℝ) : ((∑ i ∈ s, x i : ℝ) : EReal) = ∑ i ∈ s, (x i : EReal) := by
  classical
  induction s using Finset.induction_on with
  | empty => simp
  | insert i s hi ih => rw [Finset.sum_insert hi, Finset.sum_insert hi, EReal.coe_add, ih]

/-- Moving the reference point of a whole sum of exponentials. -/
theorem sum_shift {ι : Type*} (s : Finset ι) (f : ι → EReal) {M M' : EReal}
    (h : ∀ i ∈ s, f i ≤ M) (h' : M ≤ M') :
    (∑ i ∈ s, Ideal.exp (f i - M)) * Ideal.exp (M - M') = ∑ i ∈ s, Ideal.exp (f i - M') := by
  rw [sum_mul_nonneg s _ fun i _ => exp_nonneg _]
  exact Finset.sum_congr rfl fun i hi => exp_shift (h i hi) h'

/-- The running maximum of the first `n` entries. -/
noncomputable def runMax (f : ℕ → EReal) (n : ℕ) : EReal := (Finset.range n).sup f

/-- The sum of the exponentials of the first `n` entries, taken from their maximum. -/
noncomputable def runSum (f : ℕ → EReal) (n : ℕ) : EReal :=
  ∑ c ∈ Finset.range n, Ideal.exp (f c - runMax f n)

/-- The maximum of `n + k` entries is that of the first `n` and that of the next `k`. -/
theorem runMax_add (f : ℕ → EReal) (n k : ℕ) :
    runMax f (n + k) = max (runMax f n) (runMax (fun c => f (n + c)) k) := by
  induction k with
  | zero => simp [runMax]
  | succ k ih =>
    rw [← add_assoc]
    unfold runMax at *
    rw [Finset.range_add_one, Finset.sup_insert, ih, Finset.range_add_one, Finset.sup_insert]
    exact max_left_comm _ _ _

/-- One step of the running sum: the old sum rescaled, plus the new exponentials. -/
theorem runSum_add (f : ℕ → EReal) (n k : ℕ) :
    runSum f (n + k) = runSum f n * Ideal.exp (runMax f n - runMax f (n + k))
      + ∑ c ∈ Finset.range k, Ideal.exp (f (n + c) - runMax f (n + k)) := by
  unfold runSum
  rw [sum_shift (M := runMax f n) (M' := runMax f (n + k)) (Finset.range n) f
    (fun i hi => Finset.le_sup (f := f) hi) (by rw [runMax_add]; exact le_max_left _ _), Finset.sum_range_add]

/-- The maximum of `n + 1` entries, taken from left to right. -/
noncomputable def chainMax (f : ℕ → EReal) : ℕ → EReal
  | 0 => f 0
  | n + 1 => max (chainMax f n) (f (n + 1))

/-- Taken from left to right or all at once, the maximum is the same. -/
theorem chainMax_eq (f : ℕ → EReal) (n : ℕ) : chainMax f n = runMax f (n + 1) := by
  induction n with
  | zero => simp [chainMax, runMax]
  | succ n ih =>
    rw [chainMax, ih]
    unfold runMax
    rw [Finset.range_add_one (n := n + 1), Finset.sup_insert]
    exact max_comm _ _

/-- `a` plus the first `n` entries, added from left to right. -/
noncomputable def chainSum (a : EReal) (f : ℕ → EReal) : ℕ → EReal
  | 0 => a
  | n + 1 => chainSum a f n + f n

/-- Added from left to right or all at once, the sum is the same. -/
theorem chainSum_eq (a : EReal) (f : ℕ → EReal) (n : ℕ) : chainSum a f n = a + ∑ c ∈ Finset.range n, f c := by
  induction n with
  | zero => simp [chainSum]
  | succ n ih => rw [chainSum, ih, Finset.sum_range_succ, add_assoc]

/-- A fold of `max` from `⊥` is the maximum of all. -/
theorem fold_max_eq {ι : Type*} [Fintype ι] (f : ι → EReal) : Finset.univ.fold max ⊥ f = Finset.univ.sup f := rfl

/-- The logarithm of the sum of exponentials, taken from the maximum. -/
noncomputable def lseMax {ι : Type*} [Fintype ι] (f : ι → EReal) : EReal :=
  Finset.univ.sup f + Ideal.log (∑ i, Ideal.exp (f i - Finset.univ.sup f))

/-- Subtracting the logarithm in two parts, `0 - lse` and the rest, is subtracting the logarithm of the
    plain sum of exponentials: also where the row holds `⊤`, or nothing but `⊥`. -/
theorem out_eq {ι : Type*} [Fintype ι] (f : ι → EReal) (i : ι) :
    f i + (0 - lseMax f) + ((0 - lseMax f) - (0 - lseMax f))
      = f i - Ideal.log (∑ k, Ideal.exp (f k)) := by
  classical
  have hle : ∀ k, f k ≤ Finset.univ.sup f := fun k => Finset.le_sup (f := f) (Finset.mem_univ k)
  unfold lseMax
  have hatt : ∃ k, f k = Finset.univ.sup f := by
    obtain ⟨k, _, hk⟩ := Finset.exists_mem_eq_sup Finset.univ ⟨i, Finset.mem_univ i⟩ f
    exact ⟨k, hk.symm⟩
  obtain ⟨k0, hk0⟩ := hatt
  generalize hm : Finset.univ.sup f = mx at *
  induction mx with
  | top =>
    have h1 : (∑ k, Ideal.exp (f k - ⊤)) = 0 :=
      Finset.sum_eq_zero fun k _ => by rw [sub_top']; simp
    have h2 : (∑ k, Ideal.exp (f k)) = ⊤ := by
      refine top_le_iff.1 ?_
      calc (⊤ : EReal) = Ideal.exp (f k0) := by rw [hk0]; simp
        _ ≤ ∑ k, Ideal.exp (f k) :=
          Finset.single_le_sum (f := fun k => Ideal.exp (f k)) (fun k _ => exp_nonneg _) (Finset.mem_univ k0)
    have h3 : Ideal.log 0 = ⊥ := by
      change (if (0 : ℝ) ≤ 0 then (⊥ : EReal) else _) = ⊥
      exact if_pos le_rfl
    rw [h1, h2, h3, EReal.add_bot, Ideal.log_top, sub_top', sub_eq_add_neg (0 : EReal) ⊥, EReal.neg_bot,
      zero_add, sub_top', EReal.add_bot]
  | bot =>
    have hb : ∀ k, f k = ⊥ := fun k => le_bot_iff.1 (hle k)
    rw [hb i, bot_sub', EReal.bot_add, EReal.bot_add]
  | coe r =>
    have hf : ∀ k, Ideal.exp (f k) = Ideal.exp (f k - (r : EReal)) * (Real.exp r : EReal) := by
      intro k
      have := hle k
      induction hfk : f k with
      | top => rw [hfk] at this; exact absurd this (by simp)
      | bot => rw [bot_sub']; simp
      | coe s =>
        rw [← EReal.coe_sub, Ideal.exp_coe, Ideal.exp_coe, ← EReal.coe_mul, ← Real.exp_add]
        congr 2
        ring
    have hreal : ∀ k, ∃ x : ℝ, 0 ≤ x ∧ Ideal.exp (f k - (r : EReal)) = (x : EReal) := by
      intro k
      have := hle k
      induction hfk : f k with
      | top => rw [hfk] at this; exact absurd this (by simp)
      | bot => exact ⟨0, le_rfl, by rw [bot_sub']; simp⟩
      | coe s => exact ⟨Real.exp (s - r), (Real.exp_pos _).le, by rw [← EReal.coe_sub, Ideal.exp_coe]⟩
    choose x hx0 hx using hreal
    have hT : (∑ k, Ideal.exp (f k - (r : EReal))) = ((∑ k, x k : ℝ) : EReal) := by
      rw [coe_sum']
      exact Finset.sum_congr rfl fun k _ => hx k
    have hx1 : x k0 = 1 := by
      have := hx k0
      rw [hk0, ← EReal.coe_sub, sub_self, Ideal.exp_coe, Real.exp_zero] at this
      exact_mod_cast this.symm
    have hpos : 0 < ∑ k, x k :=
      lt_of_lt_of_le (by rw [hx1]; exact one_pos)
        (Finset.single_le_sum (f := x) (fun k _ => hx0 k) (Finset.mem_univ k0))
    have hS : (∑ k, Ideal.exp (f k)) = (((∑ k, x k) * Real.exp r : ℝ) : EReal) := by
      rw [EReal.coe_mul, ← hT, sum_mul_nonneg _ _ fun k _ => exp_nonneg _]
      exact Finset.sum_congr rfl fun k _ => hf k
    have hlog : ∀ y : ℝ, 0 < y → Ideal.log (y : EReal) = (Real.log y : EReal) := by
      intro y hy
      change (if y ≤ 0 then (⊥ : EReal) else _) = _
      exact if_neg (not_le.2 hy)
    rw [hS, hT, hlog _ hpos, hlog _ (mul_pos hpos (Real.exp_pos r)),
      Real.log_mul hpos.ne' (Real.exp_pos r).ne', Real.log_exp]
    have e0 : (0 : EReal) - ((r : EReal) + (Real.log (∑ k, x k) : EReal))
        = ((-(r + Real.log (∑ k, x k)) : ℝ) : EReal) := by
      rw [← EReal.coe_add, zero_sub, EReal.coe_neg]
    rw [e0, ← EReal.coe_sub, sub_self, EReal.coe_zero, add_zero, sub_eq_add_neg, ← EReal.coe_neg,
      add_comm (Real.log _) r]

/-- Lanes put together: `T` lanes, lane `j` holding the running maximum and sum of its `J` entries, give the
    logarithm of the sum of exponentials of the first `N` entries when the entries after those are `⊥`. -/
theorem lanes_lse (J T N : ℕ) (hN : N ≤ J * T) (f : ℕ → EReal) (hpad : ∀ c, N ≤ c → f c = ⊥) :
    (Finset.univ.sup fun j : Fin T => runMax (fun c => f (c * T + j)) J)
      + Ideal.log (∑ j : Fin T, runSum (fun c => f (c * T + j)) J
          * Ideal.exp (runMax (fun c => f (c * T + j)) J
              - (Finset.univ.sup fun j : Fin T => runMax (fun c => f (c * T + j)) J)))
      = lseMax fun c : Fin N => f c := by
  have hR : (Finset.univ.sup fun j : Fin T => runMax (fun c => f (c * T + j)) J)
      = Finset.univ.sup fun c : Fin N => f c := by
    refine le_antisymm (Finset.sup_le fun j _ => Finset.sup_le fun c hc => ?_) (Finset.sup_le fun c _ => ?_)
    · by_cases h : c * T + j < N
      · exact Finset.le_sup (f := fun c : Fin N => f c) (Finset.mem_univ ⟨c * T + j, h⟩)
      · rw [hpad _ (not_lt.1 h)]; exact bot_le
    · have hT : 0 < T := by
        rcases Nat.eq_zero_or_pos T with h | h
        · subst h; have := c.isLt; omega
        · exact h
      have hj : c.val % T < T := Nat.mod_lt _ hT
      have hc : c.val / T < J := (Nat.div_lt_iff_lt_mul hT).2 (lt_of_lt_of_le c.isLt hN)
      calc f c = f (c.val / T * T + c.val % T) := by rw [Nat.div_add_mod']
        _ ≤ runMax (fun k => f (k * T + c.val % T)) J :=
          Finset.le_sup (f := fun k => f (k * T + c.val % T)) (Finset.mem_range.2 hc)
        _ ≤ _ := Finset.le_sup (f := fun j : Fin T => runMax (fun c => f (c * T + j)) J)
          (Finset.mem_univ ⟨c.val % T, hj⟩)
  have hS : ∀ j : Fin T, runSum (fun c => f (c * T + j)) J
        * Ideal.exp (runMax (fun c => f (c * T + j)) J - (Finset.univ.sup fun c : Fin N => f c))
      = ∑ c : Fin J, Ideal.exp (f (c * T + j) - (Finset.univ.sup fun c : Fin N => f c)) := by
    intro j
    unfold runSum
    rw [sum_shift (M := runMax (fun c => f (c * T + j)) J) (Finset.range J) (fun c => f (c * T + j))
      (fun i hi => Finset.le_sup (f := fun c => f (c * T + j)) hi)
      (by rw [← hR]; exact Finset.le_sup (f := fun j : Fin T => runMax (fun c => f (c * T + j)) J) (Finset.mem_univ j)),
      Finset.sum_range]
  rw [hR]
  unfold lseMax
  rw [Finset.sum_congr rfl fun j _ => hS j, Finset.sum_comm]
  generalize (Finset.univ.sup fun c : Fin N => f c) = R
  refine congrArg (fun x => R + Ideal.log x) ?_
  have h1 := Fin.sum_univ_tiles J T rfl fun k : Fin (J * T) => Ideal.exp (f k - R)
  refine h1.symm.trans ?_
  rw [← Finset.sum_range fun k => Ideal.exp (f k - R), ← Finset.sum_range fun k => Ideal.exp (f k - R)]
  refine (Finset.sum_subset (Finset.range_mono hN) fun k _ hk => ?_).symm
  rw [hpad k (not_lt.1 fun h => hk (Finset.mem_range.2 h)), bot_sub', Ideal.exp_bot]

end Cert.RowMath
-- ==== Proof.KernelIdeal.Pure.lean ====
module

public import proofs.«01_k».proof.Proof.KernelIdeal.BodyDefs
public import proofs.«01_k».proof.Proof.RowMath
public import Idealize.ShloMosaic.Lib.Pointwise

@[expose] public section

/-! What the body's vectors hold, entry by entry, over the extended reals. -/

set_option maxRecDepth 16384

noncomputable section

namespace Cert.KernelIdeal.Pure

open Cert.KernelIdeal Cert.KernelIdeal.Gen Cert.KernelIdeal.Body Cert.RowMath
open Idealize.ShloMosaic Idealize.ShloMosaic.TcCoe

/-- The literal `-inf` denotes `⊥`. -/
theorem ofBits_neg_inf : Ideal.ofBits .f32 0xFF800000#32 = ⊥ := by
  simp [Ideal.ofBits, Ideal.ieee]

/-- The logits the statistics are taken of: one contraction per entry. -/
theorem logits_at (x0 : FVec Ideal S256x136 .bf16) (w : FVec Ideal S136x5120 .bf16) (r : Fin 256) (l : Fin 5120) :
    k0_pay11 (F := Ideal) (k0_pay1 w) x0 (ix2 r l) = ∑ k : Fin 136, x0 (ix2 r k) * w (ix2 k l) := by
  pointwise [k0_pay11, k0_pay1]

/-- The output block: one contraction per entry. -/
theorem out_at (w : FVec Ideal S136x5120 .bf16) (x : FVec Ideal S256x136 .bf16) (r : Fin 256) (l : Fin 5120) :
    k0_pay7 (F := Ideal) w x (ix2 r l) = ∑ k : Fin 136, x (ix2 r k) * w (ix2 k l) := by
  pointwise [k0_pay7, k0_pay1]

/-- The lane maxima after a step, `f` being the row's logits in the step's columns. -/
theorem newM_at (x0 : FVec Ideal S256x136 .bf16) (w : FVec Ideal S136x5120 .bf16) (m0 : FVec Ideal S256x128 .f32)
    (r : Fin 256) (j : Fin 128) (f : ℕ → EReal)
    (hf : ∀ l : Fin 5120, k0_pay11 (F := Ideal) (k0_pay1 w) x0 (ix2 r l) = f l) :
    newM (F := Ideal) x0 w m0 (ix2 r j) = max (m0 (ix2 r j)) (runMax (fun c => f (c * 128 + j)) 40) := by
  rw [← chainMax_eq (fun c => f (c * 128 + j)) 39]
  pointwise [newM, k0_pay14, k0_pay15, k0_pay16, hf]
  simp only [chainMax, Nat.reduceAdd, Nat.reduceMul, zero_mul, zero_add]

/-- The lane sums after a step. -/
theorem newS_at (x0 : FVec Ideal S256x136 .bf16) (w : FVec Ideal S136x5120 .bf16) (m0 s0 : FVec Ideal S256x128 .f32)
    (r : Fin 256) (j : Fin 128) (f : ℕ → EReal)
    (hf : ∀ l : Fin 5120, k0_pay11 (F := Ideal) (k0_pay1 w) x0 (ix2 r l) = f l) (M' : EReal)
    (hM : newM (F := Ideal) x0 w m0 (ix2 r j) = M') :
    newS (F := Ideal) x0 w m0 s0 (ix2 r j)
      = s0 (ix2 r j) * Ideal.exp (m0 (ix2 r j) - M') + ∑ c ∈ Finset.range 40, Ideal.exp (f (c * 128 + j) - M') := by
  have hM2 := hM
  unfold newM at hM2
  rw [← chainSum_eq]
  pointwise [newS, k0_pay8, k0_pay17, k0_pay18, k0_pay19, k0_pay20, k0_pay21, k0_pay22, hf, hM, hM2]
  simp only [chainSum, Nat.reduceAdd, Nat.reduceMul, zero_mul, zero_add]

/-- The log-sum-exp the last step of a row group takes from the lanes. -/
theorem pay10_at (m s : FVec Ideal S256x128 .f32) (r : Fin 256) (j : Fin 128) :
    k0_pay10 (F := Ideal) m s (ix2 r j)
      = (Finset.univ.sup fun x : Fin 128 => m (ix2 r x))
        + Ideal.log (∑ x : Fin 128, s (ix2 r x) * Ideal.exp (m (ix2 r x) - (Finset.univ.sup fun x : Fin 128 => m (ix2 r x)))) := by
  rw [← fold_max_eq]
  pointwise [k0_pay10, ofBits_neg_inf]

/-- The output operand, entry by entry: minus the log-sum-exp in columns 129 and 130. -/
theorem mkCo_at (x : FVec Ideal S256x136 .bf16) (l : FVec Ideal S256x128 .f32) (r : Fin 256) (k : Fin 136) :
    mkCo (F := Ideal) x l (ix2 r k)
      = if k.val = 130 then (0 - l (ix2 r 0)) - (0 - l (ix2 r 0)) else if k.val = 129 then 0 - l (ix2 r 0) else x (ix2 r k) := by
  unfold mkCo
  rw [VecWindow.put_eq_updateSlice _ _ _ inb_S256x136_S256x1_0_130, VecWindow.put_eq_updateSlice _ _ _ inb_S256x136_S256x1_0_129]
  rw [VecWindow.window_eq_ld (Val := Elt Ideal) (e := .f32)]
  pointwise [k0_pay5, k0_pay6, k0_pay4, k0_pay3, k0_pay2]
  by_cases h1 : k.val = 130
  · rw [dif_pos (by omega), if_pos h1]
    have e : ∀ h, (⟨k.val - 130, h⟩ : Fin 1) = 0 := fun h => Fin.ext (by simp [h1])
    exact congrArg (fun z : Fin 1 => (0 - l (ix2 r ⟨z.val, by omega⟩)) - (0 - l (ix2 r ⟨z.val, by omega⟩))) (e (by omega))
  · rw [dif_neg (by omega), if_neg h1]
    by_cases h2 : k.val = 129
    · rw [dif_pos (by omega), if_pos h2]
      have e : ∀ h, (⟨k.val - 129, h⟩ : Fin 1) = 0 := fun h => Fin.ext (by simp [h2])
      exact congrArg (fun z : Fin 1 => 0 - l (ix2 r ⟨z.val, by omega⟩)) (e (by omega))
    · rw [dif_neg (by omega), if_neg h2]

/-- The lanes' start: no maximum yet. -/
theorem pay12_at (r : Fin 256) (j : Fin 128) : k0_pay12 (F := Ideal) (ix2 r j) = ⊥ := by
  pointwise [k0_pay12, ofBits_neg_inf]

/-- The lanes' start: nothing summed yet. -/
theorem pay13_at (r : Fin 256) (j : Fin 128) : k0_pay13 (F := Ideal) (ix2 r j) = 0 := by
  pointwise [k0_pay13]

/-- The columns of a step, entry by entry. -/
theorem wcols_at (i : grid0.Coords) (x2 : FVec Ideal S136x102400 .bf16) (k : Fin 136) (l : Fin 5120) (h : 5120 * (i 1).val + l.val < 102400) :
    wcols (F := Ideal) i x2 (ix2 k l) = x2 (ix2 k ⟨5120 * (i 1).val + l.val, h⟩) := by
  unfold wcols VecWindow.window
  refine congrArg x2 (funext fun a => Fin.ext ?_)
  have e : ∀ a, (k0_off1 i) a = (![0, 5120 * (i 1).val] : Fin 2 → ℕ) a := fun a => congrFun (k0_off1_eq i) a
  rw [Rect.emb_apply, Rect.off_unit, Rect.stride_unit, e, Nat.one_mul]
  match a with
  | ⟨0, _⟩ => exact Nat.zero_add _
  | ⟨1, _⟩ => rfl

end Cert.KernelIdeal.Pure
-- ==== Proof.KernelIdeal.Contents.lean ====
module

public import proofs.«01_k».proof.Proof.KernelIdeal.Launch
public import proofs.«01_k».proof.Proof.KernelIdeal.Pure
public import Idealize.ShloMosaic.Lib.Pointwise
public import Idealize.ShloMosaic.Lib.Claim
public import Idealize.ShloMosaic.Lib.Pipeline.ValueKit

@[expose] public section

/-! What the kernel's operands hold when the launch begins, and what its blocks read of them. -/

set_option maxRecDepth 16384

noncomputable section

namespace Cert.KernelIdeal.Contents

open Cert.KernelIdeal Cert.KernelIdeal.Gen Cert.KernelIdeal.Body Cert.KernelIdeal.Pure
open Idealize.ShloMosaic Idealize.ShloMosaic.TcCoe

variable (m : (ℓ : Loc nD τ sig) → Buf (Elt Ideal) ℓ)

/-- The context operand over the kernel's argument: a column of ones and seven of zeros beside it. -/
def CTX (X : FVec Ideal S1024x128 .f32) : FVec Ideal S1024x136 .bf16 :=
  concatenate S1024x136 1
    [⟨S1024x128, truncf .bf16 X bitsLt_bf16_f32⟩, ⟨S1024x1, broadcastInDim S1024x1 ![] bcast_S_S1024x1 (constant (F := Ideal) S_ .bf16 0x3F80#16)⟩,
     ⟨S1024x7, broadcastInDim S1024x7 ![] bcast_S_S1024x7 (constant (F := Ideal) S_ .bf16 0x0000#16)⟩]
    concatenates_S1024x128_S1024x1_S1024x7_S1024x136_d1

/-- The augmented weights over the kernel's arguments: the padded weights, the padded bias, two rows of ones, five of zeros. -/
def AUG (W : FVec Ideal S128x100000 .f32) (B : FVec Ideal S100000 .f32) : FVec Ideal S136x102400 .bf16 :=
  concatenate S136x102400 0
    [⟨S128x102400, pad S128x102400 ![0, 0] ![0, 2400] ![0, 0] (truncf .bf16 W bitsLt_bf16_f32) (sitofp .bf16 (constantI S_ 32 0#32)) pads_S128x100000_S128x102400_000_024000 h_S_⟩,
     ⟨S1x102400, truncf .bf16 (pad S1x102400 ![0, 0] ![0, 2400] ![0, 0] (shapeCast S1x100000 B shapeCasts_S100000_S1x100000) (constant (F := Ideal) S_ .f32 0xFF800000#32) pads_S1x100000_S1x102400_000_024000 h_S_) bitsLt_bf16_f32⟩,
     ⟨S2x102400, broadcastInDim S2x102400 ![] bcast_S_S2x102400 (constant (F := Ideal) S_ .bf16 0x3F80#16)⟩,
     ⟨S5x102400, broadcastInDim S5x102400 ![] bcast_S_S5x102400 (constant (F := Ideal) S_ .bf16 0x0000#16)⟩]
    concatenates_S128x102400_S1x102400_S2x102400_S5x102400_S136x102400_d0

/-- Equal pieces make equal context operands. -/
theorem ctx_congr {a a' : FVec Ideal S1024x128 .bf16} {b b' : FVec Ideal S1024x1 .bf16} {d d' : FVec Ideal S1024x7 .bf16}
    (ha : a = a') (hb : b = b') (hd : d = d') :
    concatenate S1024x136 1 [⟨S1024x128, a⟩, ⟨S1024x1, b⟩, ⟨S1024x7, d⟩] concatenates_S1024x128_S1024x1_S1024x7_S1024x136_d1
      = concatenate S1024x136 1 [⟨S1024x128, a'⟩, ⟨S1024x1, b'⟩, ⟨S1024x7, d'⟩] concatenates_S1024x128_S1024x1_S1024x7_S1024x136_d1 := by
  rw [ha, hb, hd]

/-- Equal pieces make equal augmented weights. -/
theorem aug_congr {a a' : FVec Ideal S128x102400 .bf16} {b b' : FVec Ideal S1x102400 .bf16} {d d' : FVec Ideal S2x102400 .bf16}
    {e e' : FVec Ideal S5x102400 .bf16} (ha : a = a') (hb : b = b') (hd : d = d') (he : e = e') :
    concatenate S136x102400 0 [⟨S128x102400, a⟩, ⟨S1x102400, b⟩, ⟨S2x102400, d⟩, ⟨S5x102400, e⟩] concatenates_S128x102400_S1x102400_S2x102400_S5x102400_S136x102400_d0
      = concatenate S136x102400 0 [⟨S128x102400, a'⟩, ⟨S1x102400, b'⟩, ⟨S2x102400, d'⟩, ⟨S5x102400, e'⟩] concatenates_S128x102400_S1x102400_S2x102400_S5x102400_S136x102400_d0 := by
  rw [ha, hb, hd, he]

set_option maxHeartbeats 1600000 in
/-- The context operand when the launch begins. -/
theorem V_v3 (c : Dev nD) : V m c main_v3 = CTX (m ((c : Thread nD τ).loc main_arg0)) := by
  unfold CTX
  simp only [V, hostOps0, hostOps0_1, hostOps0_2, hostOps0_3, hostOps0_4, List.flatten_cons, List.flatten_nil, List.append_nil, List.cons_append, List.nil_append]
  after_results
  dsimp only [Matrix.cons_val_zero, Matrix.cons_val_one, Matrix.cons_val]
  refine ctx_congr ?_ ?_ ?_
  · after_results_simp; try rfl
  · after_results_simp; try rfl
  · after_results_simp; try rfl

set_option maxHeartbeats 1600000 in
/-- The augmented weights when the launch begins. -/
theorem V_v11 (c : Dev nD) : V m c main_v11 = AUG (m ((c : Thread nD τ).loc main_arg1)) (m ((c : Thread nD τ).loc main_arg2)) := by
  unfold AUG
  simp only [V, hostOps0, hostOps0_1, hostOps0_2, hostOps0_3, hostOps0_4, List.flatten_cons, List.flatten_nil, List.append_nil, List.cons_append, List.nil_append]
  after_results
  dsimp only [Matrix.cons_val_zero, Matrix.cons_val_one, Matrix.cons_val]
  refine aug_congr ?_ ?_ ?_ ?_
  · after_results_simp; try rfl
  · after_results_simp; try rfl
  · after_results_simp; try rfl
  · after_results_simp; try rfl

/-- The context operand, entry by entry. -/
theorem CTX_at (X : FVec Ideal S1024x128 .f32) (r : Fin 1024) (k : Fin 136) :
    CTX X (ix2 r k) = if h : k.val < 128 then X (ix2 r ⟨k.val, h⟩) else if k.val = 128 then 1 else 0 := by
  pointwise [CTX]
  by_cases h : k.val < 128
  · rw [dif_pos h, dif_pos h]
  · rw [dif_neg h, dif_neg h]
    by_cases h1 : k.val = 128
    · rw [dif_pos (by omega), if_pos h1]
    · rw [dif_neg (by omega), if_neg h1]

/-- The pad of the weights is zero. -/
theorem sitofp_zero : FloatOps.sitofp (F := Ideal) .bf16 0#32 = (0 : EReal) := by
  change (((0#32 : BitVec 32).toInt : ℝ) : EReal) = 0
  simp

/-- A row of the weights, among the columns of the operand: zero past the weights' own columns. -/
theorem AUG_row (W : FVec Ideal S128x100000 .f32) (B : FVec Ideal S100000 .f32) (k : Fin 136) (l : Fin 102400) (h : k.val < 128) :
    AUG W B (ix2 k l) = if hl : l.val < 100000 then W (ix2 ⟨k.val, h⟩ ⟨l.val, hl⟩) else 0 := by
  pointwise [AUG, sitofp_zero]
  rw [dif_pos h]
  by_cases hl : l.val < 100000
  · rw [dif_pos ⟨h, hl⟩, dif_pos hl]
  · rw [dif_neg (fun e => hl e.2), dif_neg hl]

/-- The row of the bias: `⊥` past its own columns. -/
theorem AUG_bias (W : FVec Ideal S128x100000 .f32) (B : FVec Ideal S100000 .f32) (k : Fin 136) (l : Fin 102400) (h : k.val = 128) :
    AUG W B (ix2 k l) = if hl : l.val < 100000 then B (ix1 ⟨l.val, hl⟩) else ⊥ := by
  pointwise [AUG, ofBits_neg_inf]
  rw [dif_neg (by omega), dif_pos (by omega)]
  by_cases hl : l.val < 100000
  · rw [dif_pos ⟨by omega, hl⟩, dif_pos hl]
  · rw [dif_neg (fun e => hl e.2), dif_neg hl]

/-- The two rows of ones. -/
theorem AUG_one (W : FVec Ideal S128x100000 .f32) (B : FVec Ideal S100000 .f32) (k : Fin 136) (l : Fin 102400) (h : k.val = 129 ∨ k.val = 130) :
    AUG W B (ix2 k l) = 1 := by
  pointwise [AUG]
  rw [dif_neg (by omega), dif_neg (by omega), dif_pos (by omega)]

/-- A contraction over 136 rows: 128 of weights and eight more. -/
theorem sum136 (g : Fin 136 → EReal) :
    ∑ k, g k = (∑ k : Fin 128, g ⟨k.val, by omega⟩)
      + (g 128 + g 129 + g 130 + g 131 + g 132 + g 133 + g 134 + g 135) := by
  rw [show (∑ k, g k) = ∑ k : Fin (128 + 8), g k from rfl, Fin.sum_univ_add, Fin.sum_univ_eight]
  rfl

/-- The logits of row `R`: the contraction plus the bias, and `⊥` past the last column. -/
def lg (X : FVec Ideal S1024x128 .f32) (W : FVec Ideal S128x100000 .f32) (B : FVec Ideal S100000 .f32) (R : Fin 1024) (c : ℕ) : EReal :=
  if h : c < 100000 then (∑ k : Fin 128, X (ix2 R k) * W (ix2 k ⟨c, h⟩)) + B (ix1 ⟨c, h⟩) else ⊥

/-- Past the last column a logit is `⊥`. -/
theorem lg_pad (X : FVec Ideal S1024x128 .f32) (W : FVec Ideal S128x100000 .f32) (B : FVec Ideal S100000 .f32) (R : Fin 1024) (c : ℕ) (h : 100000 ≤ c) :
    lg X W B R c = ⊥ := dif_neg (not_lt.2 h)

/-- The contraction over the augmented rows: the logit, plus what stands in columns 129 and 130 of the left operand. -/
theorem dot_at (X : FVec Ideal S1024x128 .f32) (W : FVec Ideal S128x100000 .f32) (B : FVec Ideal S100000 .f32) (R : Fin 1024) (l : Fin 102400)
    (hi lo : EReal) (x : Fin 136 → EReal)
    (hx : ∀ k, x k = if k.val = 130 then lo else if k.val = 129 then hi else CTX X (ix2 R k)) :
    ∑ k : Fin 136, x k * AUG W B (ix2 k l) = lg X W B R l + hi + lo := by
  rw [sum136]
  have h128 : x 128 = 1 := by rw [hx, if_neg (by decide), if_neg (by decide), CTX_at, dif_neg (by decide), if_pos (by decide)]
  have h129 : x 129 = hi := by rw [hx, if_neg (by decide), if_pos (by decide)]
  have h130 : x 130 = lo := by rw [hx, if_pos (by decide)]
  have h0 : ∀ k : Fin 136, 131 ≤ k.val → x k = 0 := by
    intro k hk
    rw [hx, if_neg (by omega), if_neg (by omega), CTX_at, dif_neg (by omega), if_neg (by omega)]
  have hlow : ∀ k : Fin 128, x ⟨k.val, by omega⟩ = X (ix2 R k) := by
    intro k
    rw [hx, if_neg (by simp; omega), if_neg (by simp; omega), CTX_at, dif_pos k.isLt]
  rw [h128, h129, h130, h0 131 (by decide), h0 132 (by decide), h0 133 (by decide), h0 134 (by decide), h0 135 (by decide),
    AUG_one W B 129 l (.inl (by decide)), AUG_one W B 130 l (.inr (by decide)), AUG_bias W B 128 l (by decide)]
  simp only [zero_mul, mul_one, one_mul, add_zero, hlow]
  rw [← add_assoc, ← add_assoc]
  refine congrArg (fun z => z + hi + lo) ?_
  unfold lg
  by_cases hl : l.val < 100000
  · rw [dif_pos hl, dif_pos hl]
    refine congrArg (· + _) (Finset.sum_congr rfl fun k _ => ?_)
    rw [AUG_row W B _ l k.isLt, dif_pos hl]
  · rw [dif_neg hl, dif_neg hl, EReal.add_bot]

/-- The windows' index maps, and the step's place in its row group. -/
theorem idx : ∀ t : Fin cfg0.N, win0_0.index t = ![min (t.val / 20) 3, 0] ∧ win0_1.index t = ![t.val / 20 - 1, 0] ∧ win0_2.index t = ![0, 0]
    ∧ win0_3.index t = ![t.val / 20 - 1, if t.val < 20 then 0 else t.val % 20] ∧ (grid0.coords t 1).val = t.val % 20 :=
  (by decide +kernel : ∀ t : Fin grid0.N, _)

/-- The statistics' context rows at point `t` are rows of the context operand. -/
theorem ctxS_at (c : Dev nD) (t : Fin cfg0.N) (r : Fin 256) (k : Fin 136) (h : min (t.val / 20) 3 * 256 + r.val < 1024) :
    ctxS m c t (ix2 r k) = (show FVec Ideal S1024x136 .bf16 from V m c main_v3) (ix2 ⟨min (t.val / 20) 3 * 256 + r.val, h⟩ k) := by
  unfold ctxS
  blk_ext [iblk, idx t]

/-- The output's context rows at point `t` are rows of the context operand. -/
theorem ctxO_at (c : Dev nD) (t : Fin cfg0.N) (r : Fin 256) (k : Fin 136) (h : (t.val / 20 - 1) * 256 + r.val < 1024) :
    ctxO m c t (ix2 r k) = (show FVec Ideal S1024x136 .bf16 from V m c main_v3) (ix2 ⟨(t.val / 20 - 1) * 256 + r.val, h⟩ k) := by
  unfold ctxO
  blk_ext [iblk, idx t]

/-- The staged weights are the whole augmented weights. -/
theorem wAll_at (c : Dev nD) (t : Fin cfg0.N) (k : Fin 136) (l : Fin 102400) :
    wAll m c t (ix2 k l) = (show FVec Ideal S136x102400 .bf16 from V m c main_v11) (ix2 k l) := by
  unfold wAll
  blk_ext [iblk, idx t]

end Cert.KernelIdeal.Contents
-- ==== Proof.KernelIdeal.Traj.lean ====
module

public import proofs.«01_k».proof.Proof.KernelIdeal.Contents

@[expose] public section

/-! What the kernel carries between grid points, entry by entry, and what its writing steps leave. -/

set_option maxRecDepth 16384

noncomputable section

namespace Cert.KernelIdeal.Traj

open Cert.KernelIdeal Cert.KernelIdeal.Gen Cert.KernelIdeal.Body Cert.KernelIdeal.Pure Cert.KernelIdeal.Contents Cert.RowMath
open Idealize.ShloMosaic Idealize.ShloMosaic.TcCoe

variable (m : (ℓ : Loc nD τ sig) → Buf (Elt Ideal) ℓ)

/-- The logits of row `R` on core `c`. -/
abbrev row (c : Dev nD) (R : Fin 1024) : ℕ → EReal :=
  lg (m ((c : Thread nD τ).loc main_arg0)) (m ((c : Thread nD τ).loc main_arg1)) (m ((c : Thread nD τ).loc main_arg2)) R

/-- The entries of row `R` that lane `j` is about. -/
abbrev lane (c : Dev nD) (R : Fin 1024) (j : Fin 128) : ℕ → EReal := fun k => row m c R (k * 128 + j)

/-- There are 100 grid points. -/
theorem N_eq : cfg0.N = 100 := by decide +kernel

/-- The columns of the step at point `t`. -/
theorem w_at (c : Dev nD) (t : Fin cfg0.N) (k : Fin 136) (l : Fin 5120) (h : 5120 * (t.val % 20) + l.val < 102400) :
    wcols (grid0.coords t) (wAll m c t) (ix2 k l)
      = AUG (m ((c : Thread nD τ).loc main_arg1)) (m ((c : Thread nD τ).loc main_arg2)) (ix2 k ⟨5120 * (t.val % 20) + l.val, h⟩) := by
  have e : (grid0.coords t 1).val = t.val % 20 := (idx t).2.2.2.2
  have h' : 5120 * (grid0.coords t 1).val + l.val < 102400 := by rw [e]; exact h
  refine (wcols_at (grid0.coords t) _ k l h').trans ?_
  refine (wAll_at m c t k ⟨_, h'⟩).trans ?_
  rw [V_v11]
  refine congrArg _ (congrArg (ix2 k) (Fin.ext ?_))
  show 5120 * (grid0.coords t 1).val + l.val = _
  rw [e]

/-- The logits of a statistics step. -/
theorem stat_logits (c : Dev nD) (t : Fin cfg0.N) (ht : t.val < 80) (r : Fin 256) (R : Fin 1024) (hR : R.val = t.val / 20 * 256 + r.val) (l : Fin 5120) :
    k0_pay11 (F := Ideal) (k0_pay1 (wcols (grid0.coords t) (wAll m c t))) (ctxS m c t) (ix2 r l)
      = row m c R (5120 * (t.val % 20) + l.val) := by
  have hl : 5120 * (t.val % 20) + l.val < 102400 := by omega
  refine (logits_at _ _ r l).trans ?_
  have hdot := dot_at (m ((c : Thread nD τ).loc main_arg0)) (m ((c : Thread nD τ).loc main_arg1)) (m ((c : Thread nD τ).loc main_arg2)) R
    ⟨5120 * (t.val % 20) + l.val, hl⟩ 0 0 (fun k => ctxS m c t (ix2 r k)) (fun k => by
      have e : min (t.val / 20) 3 * 256 + r.val < 1024 := by omega
      refine (ctxS_at m c t r k e).trans ?_
      rw [V_v3]
      have eR : (⟨min (t.val / 20) 3 * 256 + r.val, e⟩ : Fin 1024) = R := Fin.ext (by show min (t.val / 20) 3 * 256 + r.val = _; omega)
      rw [eR]
      by_cases h1 : k.val = 130
      · rw [if_pos h1]; refine (CTX_at _ R k).trans ?_; rw [dif_neg (by omega), if_neg (by omega)]
      · rw [if_neg h1]
        by_cases h2 : k.val = 129
        · rw [if_pos h2]; refine (CTX_at _ R k).trans ?_; rw [dif_neg (by omega), if_neg (by omega)]
        · rw [if_neg h2])
  rw [add_zero, add_zero] at hdot
  refine Eq.trans (Finset.sum_congr rfl fun k _ => ?_) hdot
  exact congrArg (fun z : EReal => (show EReal from ctxS m c t (ix2 r k)) * z) (w_at m c t k l hl)

/-- The maxima the step at point `t` starts from. -/
theorem startM_at (c : Dev nD) (t : Fin cfg0.N) (s : State Ideal) (r : Fin 256) (j : Fin 128) (G : ℕ → EReal)
    (h : t.val % 20 ≠ 0 → s.M (ix2 r j) = runMax G (40 * (t.val % 20))) :
    startM (grid0.coords t) s.M (ix2 r j) = runMax G (40 * (t.val % 20)) := by
  unfold startM
  by_cases h0 : t.val % 20 = 0
  · rw [if_pos ((isFirst_iff t).2 h0), h0]
    exact (pay12_at r j).trans (by simp [runMax])
  · rw [if_neg (fun e => h0 ((isFirst_iff t).1 e))]
    exact h h0

/-- The sums the step at point `t` starts from. -/
theorem startS_at (c : Dev nD) (t : Fin cfg0.N) (s : State Ideal) (r : Fin 256) (j : Fin 128) (G : ℕ → EReal)
    (h : t.val % 20 ≠ 0 → s.S (ix2 r j) = runSum G (40 * (t.val % 20))) :
    startS (grid0.coords t) s.S (ix2 r j) = runSum G (40 * (t.val % 20)) := by
  unfold startS
  by_cases h0 : t.val % 20 = 0
  · rw [if_pos ((isFirst_iff t).2 h0), h0]
    exact (pay13_at r j).trans (by simp [runSum])
  · rw [if_neg (fun e => h0 ((isFirst_iff t).1 e))]
    exact h h0

/-- One statistics step takes the running maxima and sums of 40 more entries per lane. -/
theorem step_MS (c : Dev nD) (t : Fin cfg0.N) (ht : t.val < 80) (s : State Ideal) (r : Fin 256) (j : Fin 128) (R : Fin 1024)
    (hR : R.val = t.val / 20 * 256 + r.val)
    (hM : t.val % 20 ≠ 0 → s.M (ix2 r j) = runMax (lane m c R j) (40 * (t.val % 20)))
    (hS : t.val % 20 ≠ 0 → s.S (ix2 r j) = runSum (lane m c R j) (40 * (t.val % 20))) :
    (step m c t s).M (ix2 r j) = runMax (lane m c R j) (40 * (t.val % 20) + 40)
      ∧ (step m c t s).S (ix2 r j) = runSum (lane m c R j) (40 * (t.val % 20) + 40) := by
  have hd := (doesStats_iff t).2 ht
  have hm0 := startM_at c t s r j (lane m c R j) hM
  have hs0 := startS_at c t s r j (lane m c R j) hS
  have hf := fun l => stat_logits m c t ht r R hR l
  have hsh : (fun k => row m c R (5120 * (t.val % 20) + (k * 128 + j.val))) = fun k => lane m c R j (40 * (t.val % 20) + k) := by
    funext k
    show row m c R _ = row m c R _
    congr 1
    omega
  have eM : newM (F := Ideal) (ctxS m c t) (wcols (grid0.coords t) (wAll m c t)) (startM (grid0.coords t) s.M) (ix2 r j)
      = runMax (lane m c R j) (40 * (t.val % 20) + 40) := by
    refine (newM_at _ _ _ r j (fun n => row m c R (5120 * (t.val % 20) + n)) hf).trans ?_
    rw [runMax_add, hm0, hsh]
  constructor
  · show nextM _ _ _ _ (ix2 r j) = _
    unfold nextM
    rw [if_pos hd]
    refine Eq.trans ?_ eM
    pointwise [k0_pay9]
  · show nextS _ _ _ _ _ (ix2 r j) = _
    unfold nextS
    rw [if_pos hd]
    refine (newS_at _ _ _ _ r j (fun n => row m c R (5120 * (t.val % 20) + n)) hf _ eM).trans ?_
    rw [runSum_add, hm0, hs0]
    refine congrArg (_ + ·) (Finset.sum_congr rfl fun k _ => ?_)
    exact congrArg (fun z => Ideal.exp (z - _)) (congrFun hsh k)

/-- The running maxima and sums after the step at point `n`. -/
theorem tr_MS (c : Dev nD) (n : ℕ) (hn : n < 80) (r : Fin 256) (j : Fin 128) (R : Fin 1024) (hR : R.val = n / 20 * 256 + r.val) :
    (tr m c (n + 1)).M (ix2 r j) = runMax (lane m c R j) (40 * (n % 20) + 40)
      ∧ (tr m c (n + 1)).S (ix2 r j) = runSum (lane m c R j) (40 * (n % 20) + 40) := by
  have hN : n < cfg0.N := by rw [N_eq]; omega
  induction n with
  | zero =>
    rw [tr_succ m c ⟨0, hN⟩]
    exact step_MS m c ⟨0, hN⟩ hn _ r j R hR (fun h => absurd rfl h) (fun h => absurd rfl h)
  | succ n ih =>
    rw [tr_succ m c ⟨n + 1, hN⟩]
    have key : (n + 1) % 20 ≠ 0 → (tr m c (n + 1)).M (ix2 r j) = runMax (lane m c R j) (40 * ((n + 1) % 20))
        ∧ (tr m c (n + 1)).S (ix2 r j) = runSum (lane m c R j) (40 * ((n + 1) % 20)) := by
      intro h
      have e : 40 * ((n + 1) % 20) = 40 * (n % 20) + 40 := by omega
      rw [e]
      exact ih (by omega) (by omega) (by omega)
    exact step_MS m c ⟨n + 1, hN⟩ hn _ r j R hR (fun h => (key h).1) (fun h => (key h).2)

/-- The logarithm of the sum of exponentials of row `R`, taken from its maximum. -/
abbrev lse (c : Dev nD) (R : Fin 1024) : EReal := lseMax fun k : Fin 100000 => row m c R k

/-- What the last step of a row group takes from the lanes. -/
theorem pay10_row (c : Dev nD) (n : ℕ) (hn : n < 80) (hl : n % 20 = 19) (r : Fin 256) (R : Fin 1024) (hR : R.val = n / 20 * 256 + r.val) :
    k0_pay10 (F := Ideal) (tr m c (n + 1)).M (tr m c (n + 1)).S (ix2 r 0) = lse m c R := by
  refine (pay10_at _ _ r 0).trans ?_
  have h := fun j : Fin 128 => tr_MS m c n hn r j R hR
  rw [hl] at h
  have hM : (fun j : Fin 128 => (show EReal from (tr m c (n + 1)).M (ix2 r j))) = fun j : Fin 128 => runMax (fun k => row m c R (k * 128 + j)) 800 :=
    funext fun j => (h j).1
  have hS : (fun j : Fin 128 => (show EReal from (tr m c (n + 1)).S (ix2 r j))) = fun j : Fin 128 => runSum (fun k => row m c R (k * 128 + j)) 800 :=
    funext fun j => (h j).2
  refine Eq.trans ?_ (lanes_lse 800 128 100000 (by norm_num) (row m c R) (fun k hk => lg_pad _ _ _ R k hk))
  exact congrArg₂ (fun M S : Fin 128 → EReal => Finset.univ.sup M + Ideal.log (∑ x, S x * Ideal.exp (M x - Finset.univ.sup M))) hM hS

/-- The log-sum-exp buffer, once a row group is done and until the next is. -/
theorem tr_L (c : Dev nD) (n : ℕ) (hn : n < 100) (h19 : 19 ≤ n) (r : Fin 256) (R : Fin 1024) (hR : R.val = ((n + 1) / 20 - 1) * 256 + r.val) :
    (tr m c (n + 1)).L (ix2 r 0) = lse m c R := by
  have hN : n < cfg0.N := by rw [N_eq]; omega
  have hRlt := R.isLt
  induction n with
  | zero => omega
  | succ n ih =>
    by_cases hl : (n + 1) % 20 = 19
    · have h80 : n + 1 < 80 := by omega
      have hp := pay10_row m c (n + 1) h80 hl r R (by omega)
      rw [tr_succ m c ⟨n + 1, hN⟩] at hp ⊢
      show nextL _ _ _ _ _ _ (ix2 r 0) = _
      unfold nextL
      rw [if_pos ((doesStats_iff ⟨n + 1, hN⟩).2 h80), if_pos ((isLast_iff ⟨n + 1, hN⟩).2 hl)]
      exact hp
    · have e : (tr m c (n + 1 + 1)).L = (tr m c (n + 1)).L := by
        rw [tr_succ m c ⟨n + 1, hN⟩]
        show nextL _ _ _ _ _ _ = _
        unfold nextL
        rw [if_neg (fun h => hl ((isLast_iff ⟨n + 1, hN⟩).1 h)), ite_self]
      rw [e]
      exact ih (by omega) (by omega) (by omega) (by omega)

/-- The output operand of row `R`: minus the log-sum-exp in columns 129 and 130 of the context operand. -/
abbrev outRow (c : Dev nD) (R : Fin 1024) (k : Fin 136) : EReal :=
  if k.val = 130 then (0 - lse m c R) - (0 - lse m c R) else if k.val = 129 then 0 - lse m c R
    else CTX (m ((c : Thread nD τ).loc main_arg0)) (ix2 R k)

/-- The output operand at the writing steps of a row group. -/
theorem tr_C (c : Dev nD) (n : ℕ) (hn : n < 100) (h20 : 20 ≤ n) (r : Fin 256) (R : Fin 1024) (hR : R.val = (n / 20 - 1) * 256 + r.val) (k : Fin 136) :
    (tr m c (n + 1)).C (ix2 r k) = outRow m c R k := by
  have hN : n < cfg0.N := by rw [N_eq]; omega
  have hRlt := R.isLt
  induction n with
  | zero => omega
  | succ n ih =>
    have hO := (doesOut_iff ⟨n + 1, hN⟩).2 h20
    rw [tr_succ m c ⟨n + 1, hN⟩]
    show nextCo _ _ _ _ (ix2 r k) = _
    unfold nextCo
    rw [if_pos hO]
    by_cases h0 : (n + 1) % 20 = 0
    · rw [if_pos ((isFirst_iff ⟨n + 1, hN⟩).2 h0)]
      refine (mkCo_at _ _ r k).trans ?_
      have hL := tr_L m c n (by omega) (by omega) r R (by omega)
      have e : ((n + 1) / 20 - 1) * 256 + r.val < 1024 := by omega
      have eR : (⟨((n + 1) / 20 - 1) * 256 + r.val, e⟩ : Fin 1024) = R := Fin.ext hR.symm
      have hX := ctxO_at m c ⟨n + 1, hN⟩ r k e
      rw [V_v3] at hX
      have hX' : ctxO m c ⟨n + 1, hN⟩ (ix2 r k) = CTX (m ((c : Thread nD τ).loc main_arg0)) (ix2 R k) := by
        rw [← eR]; exact hX
      show (if k.val = 130 then (0 - (show EReal from (tr m c (n + 1)).L (ix2 r 0))) - (0 - (show EReal from (tr m c (n + 1)).L (ix2 r 0)))
        else if k.val = 129 then 0 - (show EReal from (tr m c (n + 1)).L (ix2 r 0)) else (show EReal from ctxO m c ⟨n + 1, hN⟩ (ix2 r k))) = _
      rw [hL, hX']
    · rw [if_neg (fun h => h0 ((isFirst_iff ⟨n + 1, hN⟩).1 h))]
      exact ih (by omega) (by omega) (by omega) (by omega)

/-- What a writing step leaves in its block: the row's logits minus the logarithm of their sum of exponentials. -/
theorem outAt_at (c : Dev nD) (t : Fin cfg0.N) (ht : 20 ≤ t.val) (r : Fin 256) (l : Fin 5120) (R : Fin 1024)
    (hR : R.val = (t.val / 20 - 1) * 256 + r.val) (hl : 5120 * (t.val % 20) + l.val < 100000) :
    outAt m c t (ix2 r l)
      = row m c R (5120 * (t.val % 20) + l.val) - Ideal.log (∑ k : Fin 100000, Ideal.exp (row m c R k)) := by
  have hN : t.val < 100 := lt_of_lt_of_eq t.isLt N_eq
  have hl' : 5120 * (t.val % 20) + l.val < 102400 := by omega
  refine (out_at _ _ r l).trans ?_
  have hdot := dot_at (m ((c : Thread nD τ).loc main_arg0)) (m ((c : Thread nD τ).loc main_arg1)) (m ((c : Thread nD τ).loc main_arg2)) R
    ⟨5120 * (t.val % 20) + l.val, hl'⟩ (0 - lse m c R) ((0 - lse m c R) - (0 - lse m c R)) (outRow m c R) (fun k => rfl)
  have ho := out_eq (fun k : Fin 100000 => row m c R k) ⟨5120 * (t.val % 20) + l.val, hl⟩
  refine Eq.trans (Finset.sum_congr rfl fun k _ => ?_) (hdot.trans ho)
  exact congrArg₂ (fun y z : EReal => y * z) (tr_C m c t.val hN ht r R hR k) (w_at m c t k l hl')

end Cert.KernelIdeal.Traj
-- ==== Proof.KernelIdeal.Result.lean ====
module

public import proofs.«01_k».proof.Proof.KernelIdeal.Traj
public import proofs.«01_k».proof.Proof.Gen.ReferenceIdeal.Run

@[expose] public section

/-! The array the kernel leaves is the reference's term over the kernel's arguments. -/

set_option maxRecDepth 16384

noncomputable section

section Reference
open Cert.ReferenceIdeal Cert.ReferenceIdeal.Gen
open Idealize.ShloMosaic Idealize.ShloMosaic.TcCoe

/-- The reference's term: the logits minus the logarithm of the sum of their exponentials. -/
def Cert.KernelIdeal.Result.REF (X : FVec Ideal S1024x128 .f32) (W : FVec Ideal S128x100000 .f32) (B : FVec Ideal S100000 .f32) : FVec Ideal S1024x100000 .f32 :=
  subf (addf (Host.dotGeneral dot_S1024x128_S128x100000_S1024x100000_1_0_0_1_n_n none X W)
      (broadcastInDim S1024x100000 ![0, 1] bcast_S1x100000_S1024x100000_0_1 (broadcastInDim S1x100000 ![1] bcast_S100000_S1x100000_1 B)))
    (broadcastInDim S1024x100000 ![0, 1] bcast_S1024x1_S1024x100000_0_1
      (Host.log (broadcastInDim S1024x1 ![0] bcast_S1024_S1024x1_0
        (Host.reduceAdd (Host.exp (addf (Host.dotGeneral dot_S1024x128_S128x100000_S1024x100000_1_0_0_1_n_n none X W)
            (broadcastInDim S1024x100000 ![0, 1] bcast_S1x100000_S1024x100000_0_1 (broadcastInDim S1x100000 ![1] bcast_S100000_S1x100000_1 B))))
          (constant (F := Ideal) S_ .f32 0x00000000#32) reducesTo_S1024x100000_S1024_d1 h_S_))))

/-- The reference's term, entry by entry. -/
theorem Cert.KernelIdeal.Result.REF_at (X : FVec Ideal S1024x128 .f32) (W : FVec Ideal S128x100000 .f32) (B : FVec Ideal S100000 .f32) (R : Fin 1024) (l : Fin 100000) :
    Cert.KernelIdeal.Result.REF X W B (ix2 R l)
      = Cert.KernelIdeal.Contents.lg X W B R l - Ideal.log (∑ k : Fin 100000, Ideal.exp (Cert.KernelIdeal.Contents.lg X W B R k)) := by
  have h : ∀ k : Fin 100000, Cert.KernelIdeal.Contents.lg X W B R k = (∑ q : Fin 128, X (ix2 R q) * W (ix2 q k)) + B (ix1 k) :=
    fun k => dif_pos k.isLt
  simp only [h]
  pointwise [Cert.KernelIdeal.Result.REF]
end Reference

namespace Cert.KernelIdeal.Result

open Cert.KernelIdeal Cert.KernelIdeal.Gen Cert.KernelIdeal.Body Cert.KernelIdeal.Contents Cert.KernelIdeal.Traj
open Idealize.ShloMosaic Idealize.ShloMosaic.TcCoe

variable (m : (ℓ : Loc nD τ sig) → Buf (Elt Ideal) ℓ)

/-- A writing step's block, at an index whose place in the array is `E`. -/
theorem point (c : Dev nD) (t : Fin cfg0.N) (ht : 20 ≤ t.val) (i : S256x5120.Idx) (E : S1024x100000.Idx)
    (h0 : (E 0).val = (t.val / 20 - 1) * 256 + (i 0).val) (h1 : (E 1).val = t.val % 20 * 5120 + (i 1).val) :
    outAt m c t i = REF (m ((c : Thread nD τ).loc main_arg0)) (m ((c : Thread nD τ).loc main_arg1)) (m ((c : Thread nD τ).loc main_arg2)) E := by
  idx_vars i
  idx_vars E
  have hq := E1.isLt
  have hl : 5120 * (t.val % 20) + i1.val < 100000 := by omega
  have e : 5120 * (t.val % 20) + i1.val = E1.val := by omega
  refine (outAt_at m c t ht i0 i1 E0 h0 hl).trans ?_
  rw [e]
  exact (REF_at _ _ _ E0 E1).symm

/-- The result array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : 20 ≤ t.val := by
    by_contra h
    rw [noFlush3_of_lt t (by omega)] at hf
    exact Bool.noConfusion hf
  have hi : win0_3.index t = ![t.val / 20 - 1, if t.val < 20 then 0 else t.val % 20] := (idx t).2.2.2.1
  rw [if_neg (by omega)] at hi
  blk_simp
  rw [after0_3]
  refine point m c t ht _ _ ?_ ?_
  · blk_simp [hi]
  · blk_simp [hi]

end Cert.KernelIdeal.Result
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Result
public import Idealize.ShloMosaic.Adequacy
public import Idealize.ShloMosaic.Init

@[expose] public section

noncomputable section

namespace Cert.Proof

open Idealize.ShloMosaic Idealize.SL.Sem Cert.Kernel

/-- The kernel at machine floats runs, leaves its arguments unchanged and every counter at zero. -/
theorem frame_kernel : Cert.quiescent_Kernel (hKernel := Cert.Kernel.Gen.facts) := fun m ρ _ =>
  Cert.Kernel.Body.frame_claim (F := Bits) m ρ

/-- The kernel at extended reals runs, leaves its arguments unchanged and every counter at zero. -/
theorem frame_kernelIdeal : Cert.quiescent_KernelIdeal (hKernelIdeal := Cert.KernelIdeal.Gen.facts) := fun m ρ _ =>
  Cert.KernelIdeal.Body.frame_claim (F := Ideal) m ρ

/-- The reference at extended reals runs, leaves its arguments unchanged and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At extended reals the kernel and the reference, run on the same arguments, leave the same result. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Result.REF (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun r h c => ⟨(h.1 c).1.trans (Cert.KernelIdeal.Result.final m c), (h.1 c).2⟩)
      (Cert.KernelIdeal.Body.run_result (F := Ideal) m g)
  · refine (θ_run Cert.ReferenceIdeal.defs _ _).mono (fun r h c => ⟨(h c).1.trans ?_, (h c).2⟩) (Cert.ReferenceIdeal.Value.run (F := Ideal) m' g')
    obtain ⟨h0, h1, h2⟩ := hagree c
    rw [h0, h1, h2]
    rfl

/-- The certificate's claim. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
